-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![32, 32, 32]⟩ ⟨3, ![64, 128, 128]⟩ (Layout.meshBlock [2, 4, 4] ![[0], [1], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![32, 32, 32]⟩ ⟨3, ![64, 128, 128]⟩ (Layout.meshBlock [2, 4, 4] ![[0], [1], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x32x32 : Shape := ⟨3, ![32, 32, 32]⟩
abbrev S32x32x1 : Shape := ⟨3, ![32, 32, 1]⟩
abbrev S1x32x32 : Shape := ⟨3, ![1, 32, 32]⟩
abbrev S32x1x32 : Shape := ⟨3, ![32, 1, 32]⟩
abbrev S6 : Shape := ⟨1, ![6]⟩
abbrev S_ : Shape := ⟨0, ![]⟩
abbrev S1 : Shape := ⟨1, ![1]⟩
abbrev S31x32x32 : Shape := ⟨3, ![31, 32, 32]⟩
abbrev S32x31x32 : Shape := ⟨3, ![32, 31, 32]⟩
abbrev S32x32x31 : Shape := ⟨3, ![32, 32, 31]⟩

abbrev nBuf : Space → Nat
  | .hbm => 2
  | .vmem => 10
  | .smem => 0
  | _ => 0

abbrev bufTy : (tb : Table) → Fin (tcTables nBuf tb) → BufTy
  | .hbm, ⟨0, _⟩ => ⟨S32x32x32, .f32⟩
  | .hbm, ⟨1, _⟩ => ⟨S32x32x32, .f32⟩
  | .local _ .vmem, ⟨0, _⟩ => ⟨S32x32x32, .f32⟩
  | .local _ .vmem, ⟨1, _⟩ => ⟨S32x32x32, .f32⟩
  | .local _ .vmem, ⟨2, _⟩ => ⟨S32x32x1, .f32⟩
  | .local _ .vmem, ⟨3, _⟩ => ⟨S32x32x1, .f32⟩
  | .local _ .vmem, ⟨4, _⟩ => ⟨S1x32x32, .f32⟩
  | .local _ .vmem, ⟨5, _⟩ => ⟨S1x32x32, .f32⟩
  | .local _ .vmem, ⟨6, _⟩ => ⟨S32x1x32, .f32⟩
  | .local _ .vmem, ⟨7, _⟩ => ⟨S32x1x32, .f32⟩
  | .local _ .vmem, ⟨8, _⟩ => ⟨S32x32x1, .f32⟩
  | .local _ .vmem, ⟨9, _⟩ => ⟨S32x32x1, .f32⟩
  | _, _ => ⟨S32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .sgt v2 c0_i32
  let v22 : BitVec 32 := Scalar.extui v9
  let c0_i32_12 : BitVec 32 := 0#32
  let v23 : BitVec 1 := Scalar.cmpi .ne v22 c0_i32_12
  v23

def k0_dev1 (d0 : Dev nD) : Nat :=
  let c0_i32_74 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_6 : BitVec 32 := 1#32
  let v16 : BitVec 32 := Scalar.subi v2 c1_i32_6
  let c16_i32_73 : BitVec 32 := 16#32
  let v136 : BitVec 32 := Scalar.muli v16 c16_i32_73
  let v137 : BitVec 32 := Scalar.addi c0_i32_74 v136
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_75 : BitVec 32 := 4#32
  let v138 : BitVec 32 := Scalar.muli v5 c4_i32_75
  let v139 : BitVec 32 := Scalar.addi v137 v138
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v140 : BitVec 32 := Scalar.muli v8 c1_i32_76
  let v141 : BitVec 32 := Scalar.addi v139 v140
  v141.toNat
def k0_cond2 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v10 : BitVec 1 := Scalar.cmpi .slt v2 c1_i32_2
  let v24 : BitVec 32 := Scalar.extui v10
  let c0_i32_13 : BitVec 32 := 0#32
  let v25 : BitVec 1 := Scalar.cmpi .ne v24 c0_i32_13
  v25

def k0_dev2 (d0 : Dev nD) : Nat :=
  let c0_i32_74 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_7 : BitVec 32 := 1#32
  let v17 : BitVec 32 := Scalar.addi v2 c1_i32_7
  let c16_i32_73 : BitVec 32 := 16#32
  let v136 : BitVec 32 := Scalar.muli v17 c16_i32_73
  let v137 : BitVec 32 := Scalar.addi c0_i32_74 v136
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_75 : BitVec 32 := 4#32
  let v138 : BitVec 32 := Scalar.muli v5 c4_i32_75
  let v139 : BitVec 32 := Scalar.addi v137 v138
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v140 : BitVec 32 := Scalar.muli v8 c1_i32_76
  let v141 : BitVec 32 := Scalar.addi v139 v140
  v141.toNat
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_3 : BitVec 32 := 0#32
  let v11 : BitVec 1 := Scalar.cmpi .sgt v5 c0_i32_3
  let v26 : BitVec 32 := Scalar.extui v11
  let c0_i32_14 : BitVec 32 := 0#32
  let v27 : BitVec 1 := Scalar.cmpi .ne v26 c0_i32_14
  v27

def k0_dev3 (d0 : Dev nD) : Nat :=
  let c0_i32_74 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_73 : BitVec 32 := 16#32
  let v136 : BitVec 32 := Scalar.muli v2 c16_i32_73
  let v137 : BitVec 32 := Scalar.addi c0_i32_74 v136
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v18 : BitVec 32 := Scalar.subi v5 c1_i32_8
  let c4_i32_75 : BitVec 32 := 4#32
  let v138 : BitVec 32 := Scalar.muli v18 c4_i32_75
  let v139 : BitVec 32 := Scalar.addi v137 v138
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v140 : BitVec 32 := Scalar.muli v8 c1_i32_76
  let v141 : BitVec 32 := Scalar.addi v139 v140
  v141.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v12 : BitVec 1 := Scalar.cmpi .slt v5 c3_i32
  let v28 : BitVec 32 := Scalar.extui v12
  let c0_i32_15 : BitVec 32 := 0#32
  let v29 : BitVec 1 := Scalar.cmpi .ne v28 c0_i32_15
  v29

def k0_dev4 (d0 : Dev nD) : Nat :=
  let c0_i32_74 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_73 : BitVec 32 := 16#32
  let v136 : BitVec 32 := Scalar.muli v2 c16_i32_73
  let v137 : BitVec 32 := Scalar.addi c0_i32_74 v136
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v19 : BitVec 32 := Scalar.addi v5 c1_i32_9
  let c4_i32_75 : BitVec 32 := 4#32
  let v138 : BitVec 32 := Scalar.muli v19 c4_i32_75
  let v139 : BitVec 32 := Scalar.addi v137 v138
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v140 : BitVec 32 := Scalar.muli v8 c1_i32_76
  let v141 : BitVec 32 := Scalar.addi v139 v140
  v141.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_4 : BitVec 32 := 0#32
  let v13 : BitVec 1 := Scalar.cmpi .sgt v8 c0_i32_4
  let v30 : BitVec 32 := Scalar.extui v13
  let c0_i32_16 : BitVec 32 := 0#32
  let v31 : BitVec 1 := Scalar.cmpi .ne v30 c0_i32_16
  v31

def k0_dev5 (d0 : Dev nD) : Nat :=
  let c0_i32_74 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_73 : BitVec 32 := 16#32
  let v136 : BitVec 32 := Scalar.muli v2 c16_i32_73
  let v137 : BitVec 32 := Scalar.addi c0_i32_74 v136
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_75 : BitVec 32 := 4#32
  let v138 : BitVec 32 := Scalar.muli v5 c4_i32_75
  let v139 : BitVec 32 := Scalar.addi v137 v138
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v20 : BitVec 32 := Scalar.subi v8 c1_i32_10
  let c1_i32_76 : BitVec 32 := 1#32
  let v140 : BitVec 32 := Scalar.muli v20 c1_i32_76
  let v141 : BitVec 32 := Scalar.addi v139 v140
  v141.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_5 : BitVec 32 := 3#32
  let v14 : BitVec 1 := Scalar.cmpi .slt v8 c3_i32_5
  let v32 : BitVec 32 := Scalar.extui v14
  let c0_i32_17 : BitVec 32 := 0#32
  let v33 : BitVec 1 := Scalar.cmpi .ne v32 c0_i32_17
  v33

def k0_dev6 (d0 : Dev nD) : Nat :=
  let c0_i32_74 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_73 : BitVec 32 := 16#32
  let v136 : BitVec 32 := Scalar.muli v2 c16_i32_73
  let v137 : BitVec 32 := Scalar.addi c0_i32_74 v136
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_75 : BitVec 32 := 4#32
  let v138 : BitVec 32 := Scalar.muli v5 c4_i32_75
  let v139 : BitVec 32 := Scalar.addi v137 v138
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 32 := Scalar.addi v8 c1_i32_11
  let c1_i32_76 : BitVec 32 := 1#32
  let v140 : BitVec 32 := Scalar.muli v21 c1_i32_76
  let v141 : BitVec 32 := Scalar.addi v139 v140
  v141.toNat
def k0_cond13 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .sgt v2 c0_i32
  let v46 : BitVec 32 := Scalar.extui v9
  let c0_i32_24 : BitVec 32 := 0#32
  let v47 : BitVec 1 := Scalar.cmpi .ne v46 c0_i32_24
  v47

def k0_dev7 (d0 : Dev nD) : Nat :=
  let c0_i32_76 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_72 : BitVec 32 := 1#32
  let v136 : BitVec 32 := Scalar.subi v2 c1_i32_72
  let c16_i32_75 : BitVec 32 := 16#32
  let v137 : BitVec 32 := Scalar.muli v136 c16_i32_75
  let v138 : BitVec 32 := Scalar.addi c0_i32_76 v137
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_77 : BitVec 32 := 4#32
  let v139 : BitVec 32 := Scalar.muli v5 c4_i32_77
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v141 : BitVec 32 := Scalar.muli v8 c1_i32_78
  let v142 : BitVec 32 := Scalar.addi v140 v141
  v142.toNat
def k0_cond14 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v10 : BitVec 1 := Scalar.cmpi .slt v2 c1_i32_2
  let v48 : BitVec 32 := Scalar.extui v10
  let c0_i32_25 : BitVec 32 := 0#32
  let v49 : BitVec 1 := Scalar.cmpi .ne v48 c0_i32_25
  v49

def k0_dev8 (d0 : Dev nD) : Nat :=
  let c0_i32_76 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_72 : BitVec 32 := 1#32
  let v136 : BitVec 32 := Scalar.addi v2 c1_i32_72
  let c16_i32_75 : BitVec 32 := 16#32
  let v137 : BitVec 32 := Scalar.muli v136 c16_i32_75
  let v138 : BitVec 32 := Scalar.addi c0_i32_76 v137
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_77 : BitVec 32 := 4#32
  let v139 : BitVec 32 := Scalar.muli v5 c4_i32_77
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v141 : BitVec 32 := Scalar.muli v8 c1_i32_78
  let v142 : BitVec 32 := Scalar.addi v140 v141
  v142.toNat
def k0_cond15 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_3 : BitVec 32 := 0#32
  let v11 : BitVec 1 := Scalar.cmpi .sgt v5 c0_i32_3
  let v50 : BitVec 32 := Scalar.extui v11
  let c0_i32_26 : BitVec 32 := 0#32
  let v51 : BitVec 1 := Scalar.cmpi .ne v50 c0_i32_26
  v51

def k0_dev9 (d0 : Dev nD) : Nat :=
  let c0_i32_76 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_75 : BitVec 32 := 16#32
  let v137 : BitVec 32 := Scalar.muli v2 c16_i32_75
  let v138 : BitVec 32 := Scalar.addi c0_i32_76 v137
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_72 : BitVec 32 := 1#32
  let v136 : BitVec 32 := Scalar.subi v5 c1_i32_72
  let c4_i32_77 : BitVec 32 := 4#32
  let v139 : BitVec 32 := Scalar.muli v136 c4_i32_77
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v141 : BitVec 32 := Scalar.muli v8 c1_i32_78
  let v142 : BitVec 32 := Scalar.addi v140 v141
  v142.toNat
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v12 : BitVec 1 := Scalar.cmpi .slt v5 c3_i32
  let v52 : BitVec 32 := Scalar.extui v12
  let c0_i32_27 : BitVec 32 := 0#32
  let v53 : BitVec 1 := Scalar.cmpi .ne v52 c0_i32_27
  v53

def k0_dev10 (d0 : Dev nD) : Nat :=
  let c0_i32_76 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_75 : BitVec 32 := 16#32
  let v137 : BitVec 32 := Scalar.muli v2 c16_i32_75
  let v138 : BitVec 32 := Scalar.addi c0_i32_76 v137
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_72 : BitVec 32 := 1#32
  let v136 : BitVec 32 := Scalar.addi v5 c1_i32_72
  let c4_i32_77 : BitVec 32 := 4#32
  let v139 : BitVec 32 := Scalar.muli v136 c4_i32_77
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v141 : BitVec 32 := Scalar.muli v8 c1_i32_78
  let v142 : BitVec 32 := Scalar.addi v140 v141
  v142.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_4 : BitVec 32 := 0#32
  let v13 : BitVec 1 := Scalar.cmpi .sgt v8 c0_i32_4
  let v64 : BitVec 32 := Scalar.extui v13
  let c0_i32_38 : BitVec 32 := 0#32
  let v65 : BitVec 1 := Scalar.cmpi .ne v64 c0_i32_38
  v65

def k0_dev11 (d0 : Dev nD) : Nat :=
  let c0_i32_75 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_74 : BitVec 32 := 16#32
  let v137 : BitVec 32 := Scalar.muli v2 c16_i32_74
  let v138 : BitVec 32 := Scalar.addi c0_i32_75 v137
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_76 : BitVec 32 := 4#32
  let v139 : BitVec 32 := Scalar.muli v5 c4_i32_76
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v136 : BitVec 32 := Scalar.subi v8 c1_i32_72
  let c1_i32_77 : BitVec 32 := 1#32
  let v141 : BitVec 32 := Scalar.muli v136 c1_i32_77
  let v142 : BitVec 32 := Scalar.addi v140 v141
  v142.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_5 : BitVec 32 := 3#32
  let v14 : BitVec 1 := Scalar.cmpi .slt v8 c3_i32_5
  let v66 : BitVec 32 := Scalar.extui v14
  let c0_i32_39 : BitVec 32 := 0#32
  let v67 : BitVec 1 := Scalar.cmpi .ne v66 c0_i32_39
  v67

def k0_dev12 (d0 : Dev nD) : Nat :=
  let c0_i32_75 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_74 : BitVec 32 := 16#32
  let v137 : BitVec 32 := Scalar.muli v2 c16_i32_74
  let v138 : BitVec 32 := Scalar.addi c0_i32_75 v137
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_76 : BitVec 32 := 4#32
  let v139 : BitVec 32 := Scalar.muli v5 c4_i32_76
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v136 : BitVec 32 := Scalar.addi v8 c1_i32_72
  let c1_i32_77 : BitVec 32 := 1#32
  let v141 : BitVec 32 := Scalar.muli v136 c1_i32_77
  let v142 : BitVec 32 := Scalar.addi v140 v141
  v142.toNat
abbrev stage0_0 : Fin 1 → Memref sig .tc .vmem S32x32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x128x128 : Shape := ⟨3, ![64, 128, 128]⟩
abbrev S62x126x126 : Shape := ⟨3, ![62, 126, 126]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S64x128x128, .f32⟩
  | .hbm, ⟨1, _⟩ => ⟨S62x126x126, .f32⟩
  | .hbm, ⟨2, _⟩ => ⟨S62x126x126, .f32⟩
  | .hbm, ⟨3, _⟩ => ⟨S62x126x126, .f32⟩
  | .hbm, ⟨4, _⟩ => ⟨S62x126x126, .f32⟩
  | .hbm, ⟨5, _⟩ => ⟨S62x126x126, .f32⟩
  | .hbm, ⟨6, _⟩ => ⟨S62x126x126, .f32⟩
  | .hbm, ⟨7, _⟩ => ⟨S62x126x126, .f32⟩
  | .hbm, ⟨8, _⟩ => ⟨S62x126x126, .f32⟩
  | .hbm, ⟨9, _⟩ => ⟨S62x126x126, .f32⟩
  | .hbm, ⟨10, _⟩ => ⟨S62x126x126, .f32⟩
  | .hbm, ⟨11, _⟩ => ⟨S62x126x126, .f32⟩
  | .hbm, ⟨12, _⟩ => ⟨S62x126x126, .f32⟩
  | .hbm, ⟨13, _⟩ => ⟨S_, .f32⟩
  | .hbm, ⟨14, _⟩ => ⟨S62x126x126, .f32⟩
  | .hbm, ⟨15, _⟩ => ⟨S62x126x126, .f32⟩
  | .hbm, ⟨16, _⟩ => ⟨S62x126x126, .f32⟩
  | .hbm, ⟨17, _⟩ => ⟨S_, .i32⟩
  | .hbm, ⟨18, _⟩ => ⟨S_, .f32⟩
  | .hbm, ⟨19, _⟩ => ⟨S64x128x128, .f32⟩
  | _, _ => ⟨S64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_call0_v0 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Proof.Grid.lean ====
/-
The mesh of devices, 2 along the first axis, 4 along the second, 4 along the third, and the six directions in which a
device may have a neighbour. Everything here is finite arithmetic: neighbours, their inverses, and what the kernel's
own tests and device numbers say in these terms.
-/
module

public import proofs.«01_k».proof.Proof.Gen.KernelIdeal.Skeleton
public import proofs.«01_k».proof.Proof.Gen.KernelIdeal.Launch

@[expose] public section

noncomputable section

namespace Cert.Halo

open Cert.KernelIdeal Cert.KernelIdeal.Gen
open Idealize.ShloMosaic

/-- The directions, in the kernel's order: down and up the first axis, the second, the third. -/
abbrev Dir : Type := Fin 6

/-- The direction back. -/
def opp : Dir → Dir
  | 0 => 1 | 1 => 0 | 2 => 3 | 3 => 2 | 4 => 5 | 5 => 4

theorem opp_opp : ∀ d, opp (opp d) = d := by decide

/-- The number of the device one step along a direction, the mesh closed up into a torus so that the step is a
    bijection of the devices; where the mesh ends, `has` says so. -/
def nbVal (d : Dir) (c : ℕ) : ℕ :=
  match d with
  | 0 => (c / 16 + 1) % 2 * 16 + c % 16
  | 1 => (c / 16 + 1) % 2 * 16 + c % 16
  | 2 => c / 16 * 16 + (c / 4 % 4 + 3) % 4 * 4 + c % 4
  | 3 => c / 16 * 16 + (c / 4 % 4 + 1) % 4 * 4 + c % 4
  | 4 => c / 4 * 4 + (c % 4 + 3) % 4
  | 5 => c / 4 * 4 + (c % 4 + 1) % 4

theorem nbVal_lt : ∀ (d : Dir) (c : Dev nD), nbVal d c.val < nD := by decide +kernel

/-- The device one step along direction `d` from `c`. -/
def nb (d : Dir) (c : Dev nD) : Dev nD := ⟨nbVal d c.val, nbVal_lt d c⟩

/-- Whether the mesh goes on from `c` in direction `d`. -/
def has (d : Dir) (c : Dev nD) : Bool :=
  match d with
  | 0 => decide (0 < c.val / 16)
  | 1 => decide (c.val / 16 < 1)
  | 2 => decide (0 < c.val / 4 % 4)
  | 3 => decide (c.val / 4 % 4 < 3)
  | 4 => decide (0 < c.val % 4)
  | 5 => decide (c.val % 4 < 3)

theorem nb_opp_nb : ∀ (d : Dir) (c : Dev nD), nb (opp d) (nb d c) = c := by decide +kernel
theorem nb_nb_opp : ∀ (d : Dir) (c : Dev nD), nb d (nb (opp d) c) = c := by decide +kernel
theorem has_opp_nb : ∀ (d : Dir) (c : Dev nD), has (opp d) (nb d c) = has d c := by decide +kernel
theorem has_nb_opp : ∀ (d : Dir) (c : Dev nD), has d (nb (opp d) c) = has (opp d) c := by decide +kernel

/-- A step along `d` as a bijection of the devices. -/
def step (d : Dir) : Dev nD ≃ Dev nD := ⟨nb d, nb (opp d), nb_opp_nb d, nb_nb_opp d⟩
/-- The turn-back as a bijection of the directions. -/
def turn : Dir ≃ Dir := ⟨opp, opp, opp_opp, opp_opp⟩

/-- The directions in which `c` has a neighbour. -/
def dirs (c : Dev nD) : Finset Dir := Finset.univ.filter fun d => has d c = true

theorem mem_dirs {d : Dir} {c : Dev nD} : d ∈ dirs c ↔ has d c = true := by simp [dirs]

/-- How many of the listed directions `c` has a neighbour in. -/
def cnt (c : Dev nD) : List Dir → ℕ
  | [] => 0
  | d :: l => cnt c l + if has d c then 1 else 0

/-- All six, in order. -/
abbrev all : List Dir := [0, 1, 2, 3, 4, 5]

theorem card_dirs : ∀ c : Dev nD, (dirs c).card = cnt c all := by decide +kernel

/-! ## The kernel's tests and device numbers -/

/-- The kernel's coordinates of device `c`, as words. -/
def cx (c : Dev nD) : BitVec 32 := Scalar.remsi (Scalar.divsi (Dev.word c) 16#32) 2#32
def cy (c : Dev nD) : BitVec 32 := Scalar.remsi (Scalar.divsi (Dev.word c) 4#32) 4#32
def cz (c : Dev nD) : BitVec 32 := Scalar.remsi (Scalar.divsi (Dev.word c) 1#32) 4#32

/-- The kernel's six tests for a neighbour, as one-bit words. -/
def flag (d : Dir) (c : Dev nD) : BitVec 1 :=
  match d with
  | 0 => Scalar.cmpi .sgt (cx c) 0#32
  | 1 => Scalar.cmpi .slt (cx c) 1#32
  | 2 => Scalar.cmpi .sgt (cy c) 0#32
  | 3 => Scalar.cmpi .slt (cy c) 3#32
  | 4 => Scalar.cmpi .sgt (cz c) 0#32
  | 5 => Scalar.cmpi .slt (cz c) 3#32

/-- A test widened and compared with zero holds where the mesh goes on, -/
theorem flag_iff : ∀ (d : Dir) (c : Dev nD), Scalar.cmpi .ne (Scalar.extui (flag d c) : BitVec 32) 0#32 = 1#1 ↔ has d c = true := by
  decide +kernel
/-- and its complement where the mesh ends. -/
theorem flag_not_iff : ∀ (d : Dir) (c : Dev nD),
    Scalar.cmpi .ne (Scalar.extui (Scalar.xori (flag d c) 1#1) : BitVec 32) 0#32 = 1#1 ↔ ¬ has d c = true := by decide +kernel

theorem cond1_iff : ∀ c : Dev nD, k0_cond1 c = 1#1 ↔ has 0 c = true := by decide +kernel
theorem cond2_iff : ∀ c : Dev nD, k0_cond2 c = 1#1 ↔ has 1 c = true := by decide +kernel
theorem cond3_iff : ∀ c : Dev nD, k0_cond3 c = 1#1 ↔ has 2 c = true := by decide +kernel
theorem cond4_iff : ∀ c : Dev nD, k0_cond4 c = 1#1 ↔ has 3 c = true := by decide +kernel
theorem cond5_iff : ∀ c : Dev nD, k0_cond5 c = 1#1 ↔ has 4 c = true := by decide +kernel
theorem cond6_iff : ∀ c : Dev nD, k0_cond6 c = 1#1 ↔ has 5 c = true := by decide +kernel
theorem cond13_iff : ∀ c : Dev nD, k0_cond13 c = 1#1 ↔ has 0 c = true := by decide +kernel
theorem cond14_iff : ∀ c : Dev nD, k0_cond14 c = 1#1 ↔ has 1 c = true := by decide +kernel
theorem cond15_iff : ∀ c : Dev nD, k0_cond15 c = 1#1 ↔ has 2 c = true := by decide +kernel
theorem cond16_iff : ∀ c : Dev nD, k0_cond16 c = 1#1 ↔ has 3 c = true := by decide +kernel
theorem cond17_iff : ∀ c : Dev nD, k0_cond17 c = 1#1 ↔ has 4 c = true := by decide +kernel
theorem cond18_iff : ∀ c : Dev nD, k0_cond18 c = 1#1 ↔ has 5 c = true := by decide +kernel

theorem dev1_eq : ∀ (c : Dev nD) (h : k0_cond1 c = 1#1), (⟨k0_dev1 c, k0_dev1_lt c h⟩ : Dev nD) = nb 0 c := by decide +kernel
theorem dev2_eq : ∀ (c : Dev nD) (h : k0_cond2 c = 1#1), (⟨k0_dev2 c, k0_dev2_lt c h⟩ : Dev nD) = nb 1 c := by decide +kernel
theorem dev3_eq : ∀ (c : Dev nD) (h : k0_cond3 c = 1#1), (⟨k0_dev3 c, k0_dev3_lt c h⟩ : Dev nD) = nb 2 c := by decide +kernel
theorem dev4_eq : ∀ (c : Dev nD) (h : k0_cond4 c = 1#1), (⟨k0_dev4 c, k0_dev4_lt c h⟩ : Dev nD) = nb 3 c := by decide +kernel
theorem dev5_eq : ∀ (c : Dev nD) (h : k0_cond5 c = 1#1), (⟨k0_dev5 c, k0_dev5_lt c h⟩ : Dev nD) = nb 4 c := by decide +kernel
theorem dev6_eq : ∀ (c : Dev nD) (h : k0_cond6 c = 1#1), (⟨k0_dev6 c, k0_dev6_lt c h⟩ : Dev nD) = nb 5 c := by decide +kernel
theorem dev7_eq : ∀ (c : Dev nD) (h : k0_cond13 c = 1#1), (⟨k0_dev7 c, k0_dev7_lt c h⟩ : Dev nD) = nb 0 c := by decide +kernel
theorem dev8_eq : ∀ (c : Dev nD) (h : k0_cond14 c = 1#1), (⟨k0_dev8 c, k0_dev8_lt c h⟩ : Dev nD) = nb 1 c := by decide +kernel
theorem dev9_eq : ∀ (c : Dev nD) (h : k0_cond15 c = 1#1), (⟨k0_dev9 c, k0_dev9_lt c h⟩ : Dev nD) = nb 2 c := by decide +kernel
theorem dev10_eq : ∀ (c : Dev nD) (h : k0_cond16 c = 1#1), (⟨k0_dev10 c, k0_dev10_lt c h⟩ : Dev nD) = nb 3 c := by decide +kernel
theorem dev11_eq : ∀ (c : Dev nD) (h : k0_cond17 c = 1#1), (⟨k0_dev11 c, k0_dev11_lt c h⟩ : Dev nD) = nb 4 c := by decide +kernel
theorem dev12_eq : ∀ (c : Dev nD) (h : k0_cond18 c = 1#1), (⟨k0_dev12 c, k0_dev12_lt c h⟩ : Dev nD) = nb 5 c := by decide +kernel

end Cert.Halo

end
-- ==== Proof.Sched.lean ====
/-
What the kernel's devices exchange and when: the buffers and cells, what each buffer holds, and the one-round schedule
of the thirteen semaphore cells of each device.

A device's barrier cell has one duty for each direction it has a neighbour in, paid by that neighbour's signal, which
hands over the neighbour's landing buffer facing this device. The cell that a transfer out of a device completes on
has one duty, returning the share of the transfer's source; the cell that a transfer into a device completes on has
one duty, handing over the landing buffer with the neighbour's face in it. Cells towards no neighbour have no duty.
-/
module

public import proofs.«01_k».proof.Proof.Grid
public import Idealize.ShloMosaic.Lib.Pipeline.Launch
public import Idealize.ShloMosaic.Lib.Pipeline.Kit
public import Idealize.ShloMosaic.Lib.Tactic

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline library's and the exchange's, duties named by directions. -/
abbrev UU : Type := UR sig nD τ × URounds (GSem nD τ sig) Dir

local notation "𝕄" => MT nD τ sig Unit (Elt F) ℕ UU ℕ

abbrev EP : Emb (UR sig nD τ) (MT nD τ sig Unit (Elt F) ℕ UU ℕ) := embL
abbrev ER : Emb (URounds (GSem nD τ sig) Dir) (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Cells -/

abbrev barS : Sem sig := (SemArray.scalar (sig.barrier 0 rfl) : Sems sig S_).sem
abbrev sendS (d : Dir) : DmaSem sig := ⟨2 + d.val, by have := d.isLt; show _ < 14; omega⟩
abbrev recvS (d : Dir) : DmaSem sig := ⟨8 + d.val, by have := d.isLt; show _ < 14; omega⟩

abbrev barCell (c : Dev nD) : GSem nD τ sig := ((c : Thread nD τ), .reg barS)
abbrev sendCell (d : Dir) (c : Dev nD) : GSem nD τ sig := ((c : Thread nD τ), .dma (sendS d))
abbrev recvCell (d : Dir) (c : Dev nD) : GSem nD τ sig := ((c : Thread nD τ), .dma (recvS d))

/-- What a semaphore of a device serves: the barrier, a transfer out, a transfer in, or the staging copies. -/
inductive Role where
  | bar | send (d : Dir) | recv (d : Dir) | stage
  deriving DecidableEq

def role : SemLoc sig → Role
  | .reg _ => .bar
  | .dma q => if q.val < 2 then .stage else if q.val < 8 then .send (Fin.ofNat 6 (q.val - 2)) else .recv (Fin.ofNat 6 (q.val - 8))

theorem role_bar : role (.reg barS) = .bar := rfl
theorem role_send : ∀ d, role (.dma (sendS d)) = .send d := by decide
theorem role_recv : ∀ d, role (.dma (recvS d)) = .recv d := by decide

/-! ## Buffers and their contents -/

abbrev uM : Memref sig .tc .vmem S32x32x32 .f32 := Memref.whole cc0_stg0_0
abbrev oM : Memref sig .tc .vmem S32x32x32 .f32 := Memref.whole cc0_stg1_0
abbrev zloM : Memref sig .tc .vmem S32x32x1 .f32 := Memref.whole cc0_scratch0
abbrev zhiM : Memref sig .tc .vmem S32x32x1 .f32 := Memref.whole cc0_scratch1

/-- The faces of the block as the transfers read them. -/
abbrev xloM : Memref sig .tc .vmem S1x32x32 .f32 :=
  uM.slice (Rect.unit (s := S32x32x32) ![0, 0, 0] S1x32x32.size inb_S32x32x32_S1x32x32_0_0_0) (fun _ => rfl)
abbrev xhiM : Memref sig .tc .vmem S1x32x32 .f32 :=
  uM.slice (Rect.unit (s := S32x32x32) ![31, 0, 0] S1x32x32.size inb_S32x32x32_S1x32x32_31_0_0) (fun _ => rfl)
abbrev yloM : Memref sig .tc .vmem S32x1x32 .f32 :=
  uM.slice (Rect.unit (s := S32x32x32) ![0, 0, 0] S32x1x32.size inb_S32x32x32_S32x1x32_0_0_0) (fun _ => rfl)
abbrev yhiM : Memref sig .tc .vmem S32x1x32 .f32 :=
  uM.slice (Rect.unit (s := S32x32x32) ![0, 31, 0] S32x1x32.size inb_S32x32x32_S32x1x32_0_31_0) (fun _ => rfl)

/-- The faces as rectangles of the block. -/
abbrev rx0 : Rect S32x32x32 := Rect.unit (s := S32x32x32) ![0, 0, 0] S1x32x32.size inb_S32x32x32_S1x32x32_0_0_0
abbrev rx1 : Rect S32x32x32 := Rect.unit (s := S32x32x32) ![31, 0, 0] S1x32x32.size inb_S32x32x32_S1x32x32_31_0_0
abbrev ry0 : Rect S32x32x32 := Rect.unit (s := S32x32x32) ![0, 0, 0] S32x1x32.size inb_S32x32x32_S32x1x32_0_0_0
abbrev ry1 : Rect S32x32x32 := Rect.unit (s := S32x32x32) ![0, 31, 0] S32x1x32.size inb_S32x32x32_S32x1x32_0_31_0
abbrev rz0 : Rect S32x32x32 := Rect.unit (s := S32x32x32) ![0, 0, 0] S32x32x1.size inb_S32x32x32_S32x32x1_0_0_0
abbrev rz1 : Rect S32x32x32 := Rect.unit (s := S32x32x32) ![0, 0, 31] S32x32x1.size inb_S32x32x32_S32x32x1_0_0_31

/-- Device `c`'s block of the argument, as the staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- The two faces across the third axis, staged before they are sent. -/
def zlo (c : Dev nD) : (cc0_scratch0 : Ref sig .tc).ty.Contents (Elt F) := k0_pay1 (uM.view.readAt (Elt F) rz0.toLoadRect (xstg m ρ c))
def zhi (c : Dev nD) : (cc0_scratch1 : Ref sig .tc).ty.Contents (Elt F) := k0_pay2 (uM.view.readAt (Elt F) rz1.toLoadRect (xstg m ρ c))

/-- The landing buffer for the face arriving from direction `d`. -/
abbrev hB : Dir → Ref sig .tc
  | 0 => cc0_scratch2 | 1 => cc0_scratch3 | 2 => cc0_scratch4 | 3 => cc0_scratch5 | 4 => cc0_scratch6 | 5 => cc0_scratch7

/-- What arrives from direction `d`: the neighbour's face towards `c`. -/
def landed : (d : Dir) → Dev nD → (hB d).ty.Contents (Elt F)
  | 0, c => xhiM.view.read (Elt F) (xstg m ρ (nb 0 c))
  | 1, c => xloM.view.read (Elt F) (xstg m ρ (nb 1 c))
  | 2, c => yhiM.view.read (Elt F) (xstg m ρ (nb 2 c))
  | 3, c => yloM.view.read (Elt F) (xstg m ρ (nb 3 c))
  | 4, c => zhi m ρ (nb 4 c)
  | 5, c => zlo m ρ (nb 5 c)

/-- The landing buffer facing `d` on device `c`, whole, holding `f`. -/
def hPts (d : Dir) (c : Dev nD) (f : (hB d).ty.Contents (Elt F)) : sProp 𝕄 := ((c : Thread nD τ).loc (hB d)) ↦{fullShare} f
/-- The same at some contents. -/
def hAny (d : Dir) (c : Dev nD) : sProp 𝕄 := iprop(∃ f : (hB d).ty.Contents (Elt F), hPts d c f)

/-- The shares of the argument's block that the four transfers out of it read; the left half stays with the kernel's
    own loads. -/
abbrev qS : Fin 4 → PosShare TreeShare
  | 0 => fullShare.right.left | 1 => fullShare.right.right.left
  | 2 => fullShare.right.right.right.left | 3 => fullShare.right.right.right.right

/-- What a transfer out in direction `d` reads: a share of a face of the block, or the staged face. -/
def srcPts : Dir → Dev nD → sProp 𝕄
  | 0, c => xloM.view.loc (c : Thread nD τ) ↦[xloM.view.set]{qS 0} xstg m ρ c
  | 1, c => xhiM.view.loc (c : Thread nD τ) ↦[xhiM.view.set]{qS 1} xstg m ρ c
  | 2, c => yloM.view.loc (c : Thread nD τ) ↦[yloM.view.set]{qS 2} xstg m ρ c
  | 3, c => yhiM.view.loc (c : Thread nD τ) ↦[yhiM.view.set]{qS 3} xstg m ρ c
  | 4, c => ((c : Thread nD τ).loc cc0_scratch0) ↦{fullShare} zlo m ρ c
  | 5, c => ((c : Thread nD τ).loc cc0_scratch1) ↦{fullShare} zhi m ρ c

omit [FloatOps F] in
instance hPts_storable (d : Dir) (c : Dev nD) (f) : BI.Storable (upEmb : UEmb _ 𝕄) (hPts (F := F) d c f) := by unfold hPts; infer_instance
omit [FloatOps F] in
instance hAny_storable (d : Dir) (c : Dev nD) : BI.Storable (upEmb : UEmb _ 𝕄) (hAny (F := F) d c) := by unfold hAny; infer_instance
instance srcPts_storable (d : Dir) (c : Dev nD) : BI.Storable (upEmb : UEmb _ 𝕄) (srcPts (F := F) m ρ d c) := by
  unfold srcPts; split <;> infer_instance

/-- What a transfer out in direction `d` counts on its two cells: the credit of the landing buffer. -/
def amt : Dir → ℕ
  | 0 => (Memref.whole cc0_scratch3 : Memref sig .tc .vmem S1x32x32 .f32).view.dmaCredit
  | 1 => (Memref.whole cc0_scratch2 : Memref sig .tc .vmem S1x32x32 .f32).view.dmaCredit
  | 2 => (Memref.whole cc0_scratch5 : Memref sig .tc .vmem S32x1x32 .f32).view.dmaCredit
  | 3 => (Memref.whole cc0_scratch4 : Memref sig .tc .vmem S32x1x32 .f32).view.dmaCredit
  | 4 => (Memref.whole cc0_scratch7 : Memref sig .tc .vmem S32x32x1 .f32).view.dmaCredit
  | 5 => (Memref.whole cc0_scratch6 : Memref sig .tc .vmem S32x32x1 .f32).view.dmaCredit

theorem amt_pos (d : Dir) : 0 < amt d := by
  unfold amt; split <;> exact View.dmaCredit_pos _ (by decide)
theorem amt_opp : ∀ d, amt (opp d) = amt d
  | 0 => rfl | 1 => rfl | 2 => rfl | 3 => rfl | 4 => rfl | 5 => rfl

/-! ## The schedule -/

/-- The duties of a cell of device `c` in round 0. -/
def dutiesOf (c : Dev nD) : Role → Finset Dir
  | .bar => dirs c
  | .send d => if has d c then {0} else ∅
  | .recv d => if has d c then {0} else ∅
  | .stage => ∅

def amountOf : Role → ℕ
  | .bar => 1
  | .send d => amt d
  | .recv d => amt d
  | .stage => 1

def payOf (c : Dev nD) (e : Dir) : Role → sProp 𝕄
  | .bar => hAny (opp e) (nb e c)
  | .send d => srcPts m ρ d c
  | .recv d => hPts d c (landed m ρ d c)
  | .stage => iprop(emp)

instance payOf_storable (c : Dev nD) (e : Dir) (r : Role) : BI.Storable (upEmb : UEmb _ 𝕄) (payOf (F := F) m ρ c e r) := by
  unfold payOf; split <;> infer_instance

def rd : Rounds.Schedule (GSem nD τ sig) Dir 𝕄 where
  duties g r := if r = 0 ∧ g.1.2 = .tc then dutiesOf g.1.1 (role g.2) else ∅
  unitless _ := False
  amount g _ _ := amountOf (role g.2)
  payload g _ e := payOf m ρ g.1.1 e (role g.2)
  amount_pos g _ _ _ := by
    unfold amountOf; split
    · exact Nat.one_pos
    · exact amt_pos _
    · exact amt_pos _
    · exact Nat.one_pos

instance rd_payload_storable (g : GSem nD τ sig) (r : ℕ) (e : Dir) :
    BI.Storable (upEmb : UEmb _ 𝕄) ((rd (F := F) m ρ).payload g r e) :=
  payOf_storable m ρ g.1.1 e (role g.2)

section Sched
variable (c : Dev nD) (d e : Dir)

theorem duties_bar : (rd (F := F) m ρ).duties (barCell c) 0 = dirs c := by
  dsimp only [rd]; rw [if_pos ⟨rfl, rfl⟩, role_bar]; rfl
theorem duties_send : (rd (F := F) m ρ).duties (sendCell d c) 0 = if has d c then {0} else ∅ := by
  dsimp only [rd]; rw [if_pos ⟨rfl, rfl⟩, role_send]; rfl
theorem duties_recv : (rd (F := F) m ρ).duties (recvCell d c) 0 = if has d c then {0} else ∅ := by
  dsimp only [rd]; rw [if_pos ⟨rfl, rfl⟩, role_recv]; rfl
theorem duties_later (g : GSem nD τ sig) : ∀ r, 1 ≤ r → (rd (F := F) m ρ).duties g r = ∅ :=
  fun r hr => by dsimp only [rd]; rw [if_neg fun h => by omega]

theorem amount_bar : (rd (F := F) m ρ).amount (barCell c) 0 e = 1 := rfl
theorem amount_send : (rd (F := F) m ρ).amount (sendCell d c) 0 e = amt d := by dsimp only [rd]; rw [role_send]; rfl
theorem amount_recv : (rd (F := F) m ρ).amount (recvCell d c) 0 e = amt d := by dsimp only [rd]; rw [role_recv]; rfl

theorem payload_bar : (rd (F := F) m ρ).payload (barCell c) 0 e = hAny (opp e) (nb e c) := rfl
theorem payload_send : (rd (F := F) m ρ).payload (sendCell d c) 0 e = srcPts m ρ d c := by dsimp only [rd]; rw [role_send]; rfl
theorem payload_recv : (rd (F := F) m ρ).payload (recvCell d c) 0 e = hPts d c (landed m ρ d c) := by dsimp only [rd]; rw [role_recv]; rfl

theorem expect_bar : (rd (F := F) m ρ).expect (barCell c) 0 = cnt c all := by
  unfold Schedule.expect Schedule.amountOf
  rw [duties_bar, Finset.sum_congr rfl fun e _ => amount_bar m ρ c e, Finset.sum_const, smul_eq_mul, mul_one, card_dirs]
theorem expect_send (h : has d c = true) : (rd (F := F) m ρ).expect (sendCell d c) 0 = amt d := by
  unfold Schedule.expect Schedule.amountOf; rw [duties_send, if_pos h, Finset.sum_singleton, amount_send]
theorem expect_recv (h : has d c = true) : (rd (F := F) m ρ).expect (recvCell d c) 0 = amt d := by
  unfold Schedule.expect Schedule.amountOf; rw [duties_recv, if_pos h, Finset.sum_singleton, amount_recv]

theorem rest_send (h : has d c = true) : bigSep ((rd (F := F) m ρ).duties (sendCell d c) 0 \ ∅) (fun e => (rd (F := F) m ρ).payload (sendCell d c) 0 e) = srcPts m ρ d c := by
  rw [Finset.sdiff_empty, duties_send, if_pos h, bigSep_singleton, payload_send]
theorem rest_recv (h : has d c = true) : bigSep ((rd (F := F) m ρ).duties (recvCell d c) 0 \ ∅) (fun e => (rd (F := F) m ρ).payload (recvCell d c) 0 e) = hPts d c (landed m ρ d c) := by
  rw [Finset.sdiff_empty, duties_recv, if_pos h, bigSep_singleton, payload_recv]

/-- A cell towards no neighbour has no duty in any round. -/
theorem duties_send_none (h : ¬ has d c = true) : ∀ r, 0 ≤ r → (rd (F := F) m ρ).duties (sendCell d c) r = ∅ := fun r _ => by
  rcases Nat.eq_zero_or_pos r with rfl | hr
  · rw [duties_send, if_neg h]
  · exact duties_later m ρ _ r hr
theorem duties_recv_none (h : ¬ has d c = true) : ∀ r, 0 ≤ r → (rd (F := F) m ρ).duties (recvCell d c) r = ∅ := fun r _ => by
  rcases Nat.eq_zero_or_pos r with rfl | hr
  · rw [duties_recv, if_neg h]
  · exact duties_later m ρ _ r hr

end Sched

/-! ## What each device owes at launch; the levels -/

/-- The unit device `c`'s signal in direction `d` owes, and the credit its transfer in direction `d` owes. -/
def bt (d : Dir) (c : Dev nD) : CellTallies nD τ sig Unit := if has d c then tallyAt (barCell (nb d c)) () 1 else 0
def rt (d : Dir) (c : Dev nD) : CellTallies nD τ sig Unit := if has d c then tallyAt (recvCell (opp d) (nb d c)) () (amt d) else 0

/-- The transfers still to be made, in order, and the signals before them. -/
def oR (c : Dev nD) : List Dir → CellTallies nD τ sig Unit
  | [] => 0
  | d :: l => oR c l + rt d c
def oB (c : Dev nD) : List Dir → CellTallies nD τ sig Unit
  | [] => oR c all
  | d :: l => oB c l + bt d c

theorem oR_cons (c : Dev nD) (d : Dir) (l : List Dir) : oR c (d :: l) = oR c l + rt d c := rfl
theorem oB_cons (c : Dev nD) (d : Dir) (l : List Dir) : oB c (d :: l) = oB c l + bt d c := rfl

/-- All that device `c` owes at launch. -/
def O₀ (c : Dev nD) : CellTallies nD τ sig Unit := oB c all

def L (g : GSem nD τ sig) : Finset Unit := if g.1.2 = .tc then {()} else ∅
/-- Barrier cells at 1, cells of transfers in at 2, everything else at 0. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_recv (d : Dir) (c : Dev nD) (u : Unit) : lv (recvCell d c) u = 2 := by unfold lv; rw [role_recv]

theorem oR_pos {c : Dev nD} {g : GSem nD τ sig} {u : Unit} : ∀ {l : List Dir}, 0 < oR c l g u → ∃ d, g = recvCell (opp d) (nb d c)
  | [], h => absurd h (Nat.lt_irrefl 0)
  | d :: l, h => by
    unfold oR at h
    rw [Pi.add_apply, Finsupp.add_apply] at h
    by_cases h' : 0 < oR c l g u
    · exact oR_pos h'
    · have h2 : 0 < rt d c g u := by omega
      unfold rt at h2
      split at h2
      · rw [tallyAt_apply] at h2
        by_cases hg : g = recvCell (opp d) (nb d c) ∧ u = ()
        · exact ⟨d, hg.1⟩
        · rw [if_neg hg] at h2; exact absurd h2 (Nat.lt_irrefl 0)
      · exact absurd h2 (Nat.lt_irrefl 0)

theorem oB_pos {c : Dev nD} {g : GSem nD τ sig} {u : Unit} :
    ∀ {l : List Dir}, 0 < oB c l g u → (∃ d, g = recvCell (opp d) (nb d c)) ∨ ∃ d, g = barCell (nb d c)
  | [], h => Or.inl (oR_pos h)
  | d :: l, h => by
    unfold oB at h
    rw [Pi.add_apply, Finsupp.add_apply] at h
    by_cases h' : 0 < oB c l g u
    · exact oB_pos h'
    · have h2 : 0 < bt d c g u := by omega
      unfold bt at h2
      split at h2
      · rw [tallyAt_apply] at h2
        by_cases hg : g = barCell (nb d c) ∧ u = ()
        · exact Or.inr ⟨d, hg.1⟩
        · rw [if_neg hg] at h2; exact absurd h2 (Nat.lt_irrefl 0)
      · exact absurd h2 (Nat.lt_irrefl 0)

omit [FloatOps F] in
/-- A staging copy may be waited for, whatever of this the device still owes. -/
theorem mayWait_stage (c : Dev nD) (q : DmaSem sig) (hq : role (.dma q) = .stage) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oB_pos hg with ⟨d, rfl⟩ | ⟨d, rfl⟩ <;> exact Finset.mem_singleton_self _)
      (fun p hp => by rw [Finset.mem_singleton.mp hp]; dsimp only [lv]; rw [hq])
      (fun g u hg => by
        rcases oB_pos hg with ⟨d, rfl⟩ | ⟨d, rfl⟩
        · rw [lv_recv]; decide
        · rw [lv_bar]; decide)
  · rw [MayWait_zero]; iintro -; iempintro

omit [FloatOps F] in
/-- At its barrier waits a device owes transfers only: their cells lie above the barrier's. -/
theorem mayWait_bar (c : Dev nD) (l : List Dir) :
    (levAts L lv : sProp 𝕄) ⊢ MayWait (c : Thread nD τ) (.reg barS) () (oR c l) :=
  MayOwe.of_cut (L := L) (lev := lv) 1 (fun p hp => by rw [Finset.mem_singleton.mp hp, L_tc]; exact Finset.mem_singleton_self _)
    (fun g u hg => by obtain ⟨d, rfl⟩ := oR_pos hg; exact Finset.mem_singleton_self _)
    (fun p hp => by rw [Finset.mem_singleton.mp hp]; exact le_refl 1)
    (fun g u hg => by obtain ⟨d, rfl⟩ := oR_pos hg; rw [lv_recv]; decide)

/-! ## Names of the cells of a device -/

/-- The thirteen cells of a device in one row: the barrier's, then the six of the transfers out, the six of those in. -/
def csem (k : Fin 13) : SemLoc sig := if h : k.val = 0 then .reg barS else .dma ⟨k.val + 1, by have := k.isLt; show _ < 14; omega⟩
abbrev kcell (ck : Dev nD × Fin 13) : GSem nD τ sig := ((ck.1 : Thread nD τ), csem ck.2)
def sSlot (d : Dir) : Fin 13 := ⟨1 + d.val, by have := d.isLt; omega⟩
def rSlot (d : Dir) : Fin 13 := ⟨7 + d.val, by have := d.isLt; omega⟩

theorem csem_bar : csem 0 = .reg barS := rfl
theorem csem_send : ∀ d, csem (sSlot d) = .dma (sendS d) := by decide
theorem csem_recv : ∀ d, csem (rSlot d) = .dma (recvS d) := by decide
theorem csem_injective : Function.Injective csem := by decide

/-- All the cells' invariants, under the names `K`, and that each cell has reached round 0. -/
def records (K : Dev nD × Fin 13 → ℕ) : sProp 𝕄 :=
  iprop((bigSep Finset.univ fun ck : Dev nD × Fin 13 => cellInv ER (rd m ρ) (K ck) (kcell ck))
    ∗ bigSep Finset.univ fun ck : Dev nD × Fin 13 => reached ER (kcell ck) 0)

instance records_persistent (K : Dev nD × Fin 13 → ℕ) : BI.Persistent (records m ρ K) := by unfold records; infer_instance

section Records
variable (K : Dev nD × Fin 13 → ℕ)

theorem inv_at (ck : Dev nD × Fin 13) : records m ρ K ⊢ cellInv ER (rd m ρ) (K ck) (kcell ck) := by
  have h : (bigSep Finset.univ fun ck : Dev nD × Fin 13 => (cellInv ER (rd m ρ) (K ck) (kcell ck) : sProp 𝕄)) ⊢ cellInv ER (rd m ρ) (K ck) (kcell ck) :=
    bigSep_elim (Finset.mem_univ ck)
  unfold records
  iintro ⟨#H, -⟩
  iapply h; iexact H
theorem reached_at (ck : Dev nD × Fin 13) : records m ρ K ⊢ reached ER (kcell ck) 0 := by
  have h : (bigSep Finset.univ fun ck : Dev nD × Fin 13 => (reached ER (kcell ck) 0 : sProp 𝕄)) ⊢ reached ER (kcell ck) 0 :=
    bigSep_elim (Finset.mem_univ ck)
  unfold records
  iintro ⟨-, #H⟩
  iapply h; iexact H

theorem inv_bar (c : Dev nD) : records m ρ K ⊢ cellInv ER (rd m ρ) (K (c, 0)) (barCell c) := inv_at m ρ K (c, 0)
theorem inv_send (d : Dir) (c : Dev nD) : records m ρ K ⊢ cellInv ER (rd m ρ) (K (c, sSlot d)) (sendCell d c) := by
  have := inv_at m ρ K (c, sSlot d); rwa [kcell, csem_send] at this
theorem inv_recv (d : Dir) (c : Dev nD) : records m ρ K ⊢ cellInv ER (rd m ρ) (K (c, rSlot d)) (recvCell d c) := by
  have := inv_at m ρ K (c, rSlot d); rwa [kcell, csem_recv] at this
theorem reached_bar (c : Dev nD) : records m ρ K ⊢ reached ER (barCell c) 0 := reached_at m ρ K (c, 0)
theorem reached_send (d : Dir) (c : Dev nD) : records m ρ K ⊢ reached ER (sendCell d c) 0 := by
  have := reached_at m ρ K (c, sSlot d); rwa [kcell, csem_send] at this
theorem reached_recv (d : Dir) (c : Dev nD) : records m ρ K ⊢ reached ER (recvCell d c) 0 := by
  have := reached_at m ρ K (c, rSlot d); rwa [kcell, csem_recv] at this

end Records

end Cert.Halo

end
-- ==== Proof.Steps.lean ====
/-
The kernel's guarded operations, one rule each, stated for every device at once: what each takes and gives where the
mesh goes on in its direction, and where it ends.
-/
module

public import proofs.«01_k».proof.Proof.Sched

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- No loop of the program varies. -/
abbrev 𝒱₀ : Variants := Variants.none

local notation "𝕄" => MT nD τ sig Unit (Elt F) ℕ UU ℕ

variable (m : (ℓ : Loc nD τ sig) → Buf (Elt F) ℓ) (ρ : Dev nD → PrngReg) (K : Dev nD × Fin 13 → ℕ)

/-- What device `c` owes, whatever it has waited for. -/
def owesE (c : Dev nD) (O : CellTallies nD τ sig Unit) : sProp 𝕄 := iprop(∃ W : Waits sig Unit, owes (c : Thread nD τ) O W)

/-- The landing buffer facing `d`, where no signal has handed it over. -/
def hLeft (d : Dir) (c : Dev nD) : sProp 𝕄 := if has d c then iprop(emp) else hAny d c
/-- The neighbour's landing buffer facing `c`, where there is a neighbour. -/
def nbBuf (d : Dir) (c : Dev nD) : sProp 𝕄 := if has d c then hAny (opp d) (nb d c) else iprop(emp)
/-- After the transfer out in direction `d`: the right to wait for its source, or the source where none was made. -/
def sent (d : Dir) (c : Dev nD) : sProp 𝕄 := if has d c then iprop(cred (tallyAt (sendCell d c) () (amt d))) else srcPts m ρ d c
/-- The credit for the transfer into `c` from direction `d`. -/
def rc (d : Dir) (c : Dev nD) : CellTallies nD τ sig Unit := if has d c then tallyAt (recvCell d c) () (amt d) else 0

/-- A wait of one unit asks one unit of the cell. -/
theorem toNat_one : (1#32 : BitVec 32).toNat = 1 := rfl

/-! ## The signals -/

/-- The signal in direction `d`: it hands over `c`'s landing buffer facing `d` and pays one unit of what `c` owes. -/
theorem signal_step (c : Dev nD) (d : Dir) (l : List Dir) {C : Prop} [Decidable C] (hC : C ↔ has d c = true) (n : C → Dev nD) (hn : ∀ h, n h = nb d c)
    {α : Type} (X : Prog (TpuEff nD τ sig (Elt F) Λ₀ .tc) α) (Q : α → sProp 𝕄) :
    iprop(records m ρ K ∗ owesE c (oB c (d :: l)) ∗ dutyTok ER (barCell (nb d c)) 0 (opp d) ∗ hAny d c)
      ⊢ iprop(((owesE c (oB c l) ∗ hLeft d c) -∗ wp frame (wpE (defs₀ (F := F)) 𝒱₀ (c : Thread nD τ) none) Set.univ X Q)
        -∗ wp frame (wpE (defs₀ (F := F)) 𝒱₀ (c : Thread nD τ) none) Set.univ
          (if h : C then (semSignalWord (n h) barS 1#32 >>= fun _ => X) else X) Q) := by
  unfold owesE hLeft
  iintro ⟨#Hrec, ⟨%W, HO⟩, Ht, Hb⟩ Hk
  by_cases h : C
  · have hh := hC.mp h
    rw [dif_pos h, hn h]
    simp only [semSignalWord, Prog.lift, Prog.bind_op, Prog.bind_ret, if_pos hh]
    iapply (Rounds.wp_signal 𝒱₀ ER (rd m ρ) (c : Thread nD τ) none (dst := (nb d c : Thread nD τ)) (κ := K (nb d c, 0))
      (d := opp d) (by rw [duties_bar]; exact mem_dirs.mpr ((has_opp_nb d c).trans hh)) ((amount_bar m ρ (nb d c) (opp d)).trans rfl) () (oB c l)
      (O₀ := oB c (d :: l)) (by rw [oB_cons, bt, if_pos hh])) $$ [HO Ht Hb]
    · isplitr; · iapply (inv_bar m ρ K (nb d c)); iexact Hrec
      isplitl [HO]; · iexact HO
      isplitl [Ht]; · iexact Ht
      isplitl [Hb]
      · rw [payload_bar, opp_opp, nb_opp_nb]; iexact Hb
      · iapply (reached_bar m ρ K (nb d c)); iexact Hrec
    iintro HO
    iapply Hk
    isplitl [HO]; · iexists W; iexact HO
    iempintro
  · have hh : ¬ has d c = true := fun e => h (hC.mpr e)
    rw [dif_neg h, if_neg hh, oB_cons, bt, if_neg hh, add_zero]
    iapply Hk
    isplitl [HO]; · iexists W; iexact HO
    iexact Hb

/-! ## The barrier's waits -/

/-- Before the waits of the directions `l`: the units taken so far and the duties they stand for. -/
def waitInv (c : Dev nD) (l : List Dir) : sProp 𝕄 :=
  iprop(∃ (S : Finset Dir) (n : ℕ), ⌜n + cnt c l = cnt c all ∧ S ⊆ dirs c ∧ n + (dirs c \ S).card ≤ cnt c all⌝
    ∗ cred (tallyAt (barCell c) () (cnt c l)) ∗ atPos ER (barCell c) 0 S n
    ∗ bigSep S fun e => hAny (F := F) (opp e) (nb e c))

omit [FloatOps F] in
/-- No wait made yet. -/
theorem waitInv_intro (c : Dev nD) :
    iprop(cred (tallyAt (barCell c) () (cnt c all)) ∗ atPos ER (barCell c) 0 ∅ 0) ⊢ waitInv (F := F) c all := by
  unfold waitInv
  iintro ⟨Hc, Hat⟩
  iexists ∅, 0
  isplitr
  · ipureintro; exact ⟨Nat.zero_add _, Finset.empty_subset _, by rw [Finset.sdiff_empty, card_dirs, Nat.zero_add]⟩
  isplitl [Hc]; · iexact Hc
  isplitl [Hat]; · iexact Hat
  rw [bigSep_empty]; iempintro

/-- The wait guarded by direction `d`: one more unit, and with it the landing buffers of the neighbours it stands for. -/
theorem wait_step (c : Dev nD) (d : Dir) (l : List Dir) {C : Prop} [Decidable C] (hC : C ↔ has d c = true)
    {α : Type} (X : Prog (TpuEff nD τ sig (Elt F) Λ₀ .tc) α) (Q : α → sProp 𝕄) :
    iprop(records m ρ K ∗ levAts L lv ∗ owesE c (oR c all) ∗ waitInv c (d :: l))
      ⊢ iprop(((owesE c (oR c all) ∗ waitInv c l) -∗ wp frame (wpE (defs₀ (F := F)) 𝒱₀ (c : Thread nD τ) none) Set.univ X Q)
        -∗ wp frame (wpE (defs₀ (F := F)) 𝒱₀ (c : Thread nD τ) none) Set.univ
          (if h : C then (semWaitWord barS 1#32 >>= fun _ => X) else X) Q) := by
  unfold owesE waitInv
  iintro ⟨#Hrec, #Hlev, ⟨%W, HO⟩, ⟨%S, %n, %hS, Hc, Hat, Hp⟩⟩ Hk
  obtain ⟨h1, h2, h3⟩ := hS
  by_cases h : C
  · have hh := hC.mp h
    rw [dif_pos h]
    simp only [semWaitWord, Prog.lift, Prog.bind_op, Prog.bind_ret]
    have hcnt : cnt c (d :: l) = cnt c l + 1 := by rw [cnt, if_pos hh]
    rw [hcnt] at h1 ⊢
    rw [← tallyAt_add]
    ihave Hc' := (cred_add _ _).1 $$ Hc
    icases Hc' with ⟨Hc, Hc1⟩
    iapply (Rounds.wp_wait 𝒱₀ ER (rd m ρ) (c : Thread nD τ) none (κ := K (c, 0)) (k' := 1)
      (wpE_semWait_eq 𝒱₀ (c : Thread nD τ) none Set.univ) (Set.mem_univ _) {(SemLoc.reg barS, ())} (cr := Finsupp.single () 1)
      (O := oR c all) (W := W) (R := 0) (m := n) (T := S) (by rw [Util.total_single]) (image_single_subset _ () 1)) $$ [Hc1 HO Hat]
    · isplitr; · iapply (inv_bar m ρ K c); iexact Hrec
      isplitl [Hc1]; · iexact Hc1
      isplitl [HO]; · iexact HO
      isplitr; · iapply (mayWait_bar c all); iexact Hlev
      iexact Hat
    iintro %S' ⟨%hS', HO, Hat, Hp'⟩
    rw [duties_bar, expect_bar] at hS'
    iapply Hk
    isplitl [HO]; · iexists _; iexact HO
    iexists S', (n + 1)
    isplitr
    · ipureintro; exact ⟨by omega, hS'.2.1, hS'.2.2⟩
    isplitl [Hc]; · iexact Hc
    isplitl [Hat]; · iexact Hat
    have hjoin : iprop((bigSep S fun e => hAny (F := F) (opp e) (nb e c)) ∗ bigSep (S' \ S) fun e => hAny (F := F) (opp e) (nb e c))
        ⊢ bigSep S' fun e => hAny (F := F) (opp e) (nb e c) := Entails.of_eq (bigSep_sdiff_split hS'.1).symm
    iapply hjoin
    isplitl [Hp]; · iexact Hp
    iexact Hp'
  · have hh : ¬ has d c = true := fun e => h (hC.mpr e)
    have hcnt : cnt c (d :: l) = cnt c l := by rw [cnt, if_neg hh, Nat.add_zero]
    rw [dif_neg h]
    rw [hcnt] at h1 ⊢
    iapply Hk
    isplitl [HO]; · iexists W; iexact HO
    iexists S, n
    isplitr
    · ipureintro; exact ⟨h1, h2, h3⟩
    isplitl [Hc]; · iexact Hc
    isplitl [Hat]; · iexact Hat
    iexact Hp

/-- All the waits made: every neighbour's landing buffer, and the barrier's counter back at zero. -/
theorem wait_done (c : Dev nD) :
    iprop(records m ρ K ∗ waitInv c []) ⊢ iprop(|={Set.univ}=> (semVal (barCell c) 0 ∗ bigSep Finset.univ fun d : Dir => nbBuf (F := F) d c)) := by
  unfold waitInv
  iintro ⟨#Hrec, ⟨%S, %n, %hS, Hc, Hat, Hp⟩⟩
  obtain ⟨h1, h2, h3⟩ := hS
  have hcard : (dirs c \ S).card = 0 := by rw [cnt] at h1; omega
  have hSD : dirs c ⊆ S := Finset.sdiff_eq_empty_iff_subset.mp (Finset.card_eq_zero.mp hcard)
  have hE : S = dirs c := Finset.Subset.antisymm h2 hSD
  imod (Rounds.fupd_skip ER (rd m ρ) (κ := K (c, 0)) (g := barCell c) (R := 0) (m := n) (T := S) (by rw [duties_bar]; exact hSD)
    (by rw [expect_bar]; rw [cnt] at h1; omega) (Set.mem_univ _)) $$ [Hat] with ⟨Hat, -⟩
  · isplitr; · iapply (inv_bar m ρ K c); iexact Hrec
    iexact Hat
  imod (Rounds.cell_close ER (rd m ρ) (Set.mem_univ (K (c, 0))) (fun h => h) (R := 0 + 1) (duties_later m ρ (barCell c))) $$ [Hat] with Hz
  · isplitr; · iapply (inv_bar m ρ K c); iexact Hrec
    iexact Hat
  imodintro
  isplitl [Hz]; · iexact Hz
  subst hE
  have hsplit : (bigSep (dirs c) fun e => hAny (F := F) (opp e) (nb e c)) ⊢ bigSep Finset.univ fun d : Dir => nbBuf (F := F) d c := by
    rw [← Finset.filter_union_filter_not_eq (fun d => has d c = true) (Finset.univ : Finset Dir),
      bigSep_union (Finset.disjoint_filter_filter_not _ _ _)]
    refine (sep_emp (PROP := sProp 𝕄)).2.trans (BI.sep_mono (bigSep_mono fun d hd => ?_) ?_)
    · unfold nbBuf; rw [if_pos (Finset.mem_filter.mp hd).2]; exact Entails.refl _
    · rw [bigSep_congr (Ψ := fun _ => iprop(emp)) fun d hd => by unfold nbBuf; rw [if_neg (Finset.mem_filter.mp hd).2]]
      exact Entails.of_eq (bigSep_emp_const _).symm
  iapply hsplit; iexact Hp

/-! ## The transfers -/

/-- A transfer out in direction `d`, there being a neighbour `n` to take it. -/
theorem send_at (c : Dev nD) (d : Dir) (l : List Dir) (hd : has d c = true) (n : Dev nD) (hn : n = nb d c)
    {s : Shape} (src dst : Memref sig .tc .vmem s .f32) {hsc : (dst : Memref sig (Dev.tc n : Thread nD τ).2.kind .vmem s .f32).view.ref.isScScratch = false}
    (sS sR : DmaSem sig) (hsS : sS = sendS d) (hsR : sR = recvS (opp d)) {hsrc : src.view.WordExact} {hdst : dst.view.WordExact}
    {hsem : DmaTarget.Typed .vmem (.dma sR) (.remote (Dev.tc n : Thread nD τ) (dst : Memref sig .tc .vmem s .f32) (.dma sS) hsc)}
    (hN : dst.view.amount (.dma sR) = amt d) (q : PosShare TreeShare) (fs : Buf (Elt F) (src.view.loc (c : Thread nD τ)))
    (h₁ : srcPts m ρ d c = (src.view.loc (c : Thread nD τ) ↦[src.view.set]{q} fs))
    (fd : Buf (Elt F) (dst.view.loc (nb d c : Thread nD τ)))
    (h₃ : (dst.view.loc (nb d c : Thread nD τ) ↦[dst.view.set]{fullShare} (dst.view.write (Elt F) fd (src.view.read (Elt F) fs) Finset.univ))
        ⊢ hPts (opp d) (nb d c) (landed m ρ (opp d) (nb d c)))
    {α : Type} (k : PUnit → Prog (TpuEff nD τ sig (Elt F) Λ₀ .tc) α) (Q : α → sProp 𝕄) (W : Waits sig Unit) :
    iprop(cellInv ER (rd m ρ) (K (c, sSlot d)) (sendCell d c) ∗ cellInv ER (rd m ρ) (K (nb d c, rSlot (opp d))) (recvCell (opp d) (nb d c))
        ∗ srcPts m ρ d c ∗ (dst.view.loc (nb d c : Thread nD τ) ↦[dst.view.set]{fullShare} fd)
        ∗ owes (c : Thread nD τ) (oR c (d :: l)) W
        ∗ dutyTok ER (sendCell d c) 0 0 ∗ reached ER (sendCell d c) 0
        ∗ dutyTok ER (recvCell (opp d) (nb d c)) 0 0 ∗ reached ER (recvCell (opp d) (nb d c)) 0)
      ⊢ iprop(((cred (tallyAt (sendCell d c) () (amt d)) ∗ owes (c : Thread nD τ) (oR c l) W)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc n : Thread nD τ) dst (.dma sS) hsc) (.dma sR) hsrc hdst hsem) k) Q) := by
  subst hn hsS hsR
  rw [h₁]
  exact Rounds.wp_send_pointsTo 𝒱₀ ER (rd m ρ) (c : Thread nD τ) none (κ₁ := K (c, sSlot d)) (κ₂ := K (nb d c, rSlot (opp d)))
    (r₁ := 0) (r₂ := 0) (d₁ := 0) (d₂ := 0) (fd := fd)
    (by rw [duties_send, if_pos hd]; exact Finset.mem_singleton_self _)
    (by rw [duties_recv, if_pos ((has_opp_nb d c).trans hd)]; exact Finset.mem_singleton_self _)
    () () (amt d) hN (amount_send m ρ c d 0) ((amount_recv m ρ (nb d c) (opp d) 0).trans (amt_opp d)) (oR c l)
    (by rw [oR_cons, rt, if_pos hd]) (W := W)
    (by rw [payload_send, h₁])
    (by rw [payload_recv]; exact h₃)

/-- The transfer out in direction `d`: it takes its source and the neighbour's landing buffer, which comes to hold the
    source's contents, and pays what `c` owes to the neighbour's cell; the source comes back on `c`'s own cell. -/
theorem send_step (c : Dev nD) (d : Dir) (l : List Dir) {C : Prop} [Decidable C] (hC : C ↔ has d c = true) (n : C → Dev nD) (hn : ∀ h, n h = nb d c)
    {s : Shape} (src dst : Memref sig .tc .vmem s .f32) {hsc : ∀ h : C, (dst : Memref sig (Dev.tc (n h) : Thread nD τ).2.kind .vmem s .f32).view.ref.isScScratch = false}
    (sS sR : DmaSem sig) (hsS : sS = sendS d) (hsR : sR = recvS (opp d)) {hsrc : src.view.WordExact} {hdst : dst.view.WordExact}
    {hsem : ∀ h : C, DmaTarget.Typed .vmem (.dma sR) (.remote (Dev.tc (n h) : Thread nD τ) (dst : Memref sig .tc .vmem s .f32) (.dma sS) (hsc h))}
    (hN : dst.view.amount (.dma sR) = amt d) (q : PosShare TreeShare) (fs : Buf (Elt F) (src.view.loc (c : Thread nD τ)))
    (h₁ : srcPts m ρ d c = (src.view.loc (c : Thread nD τ) ↦[src.view.set]{q} fs))
    (h₂ : hAny (F := F) (opp d) (nb d c) ⊢ iprop(∃ fd : Buf (Elt F) (dst.view.loc (nb d c : Thread nD τ)), dst.view.loc (nb d c : Thread nD τ) ↦[dst.view.set]{fullShare} fd))
    (h₃ : ∀ fd : Buf (Elt F) (dst.view.loc (nb d c : Thread nD τ)),
      (dst.view.loc (nb d c : Thread nD τ) ↦[dst.view.set]{fullShare} (dst.view.write (Elt F) fd (src.view.read (Elt F) fs) Finset.univ))
        ⊢ hPts (opp d) (nb d c) (landed m ρ (opp d) (nb d c)))
    {α : Type} (X : Prog (TpuEff nD τ sig (Elt F) Λ₀ .tc) α) (Q : α → sProp 𝕄) :
    iprop(records m ρ K ∗ owesE c (oR c (d :: l)) ∗ nbBuf d c ∗ srcPts m ρ d c ∗ dutyTok ER (sendCell d c) 0 0 ∗ dutyTok ER (recvCell (opp d) (nb d c)) 0 0)
      ⊢ iprop(((owesE c (oR c l) ∗ sent m ρ d c) -∗ wp frame (wpE (defs₀ (F := F)) 𝒱₀ (c : Thread nD τ) none) Set.univ X Q)
        -∗ wp frame (wpE (defs₀ (F := F)) 𝒱₀ (c : Thread nD τ) none) Set.univ
          (if h : C then (Prog.lift (.enqueueDma src (.remote (Dev.tc (n h) : Thread nD τ) dst (.dma sS) (hsc h)) (.dma sR) hsrc hdst (hsem h)) >>= fun _ => X) else X) Q) := by
  unfold owesE nbBuf sent
  iintro ⟨#Hrec, ⟨%W, HO⟩, Hd, Hs, Ht₁, Ht₂⟩ Hk
  by_cases h : C
  · have hh := hC.mp h
    rw [dif_pos h]
    simp only [Prog.lift, Prog.bind_op, Prog.bind_ret, if_pos hh]
    ihave Hd' := h₂ $$ Hd
    icases Hd' with ⟨%fd, Hd⟩
    iapply (send_at m ρ K c d l hh (n h) (hn h) src dst sS sR hsS hsR hN q fs h₁ fd (h₃ fd) (fun _ => X) Q W) $$ [HO Hd Hs Ht₁ Ht₂]
    · isplitr; · iapply (inv_send m ρ K d c); iexact Hrec
      isplitr; · iapply (inv_recv m ρ K (opp d) (nb d c)); iexact Hrec
      isplitl [Hs]; · iexact Hs
      isplitl [Hd]; · iexact Hd
      isplitl [HO]; · iexact HO
      isplitl [Ht₁]; · iexact Ht₁
      isplitr; · iapply (reached_send m ρ K d c); iexact Hrec
      isplitl [Ht₂]; · iexact Ht₂
      iapply (reached_recv m ρ K (opp d) (nb d c)); iexact Hrec
    iintro ⟨Hc, HO⟩
    iapply Hk
    isplitl [HO]; · iexists W; iexact HO
    iexact Hc
  · have hh : ¬ has d c = true := fun e => h (hC.mpr e)
    rw [dif_neg h, if_neg hh, oR_cons, rt, if_neg hh, if_neg hh, add_zero]
    iapply Hk
    isplitl [HO]; · iexists W; iexact HO
    iexact Hs

/-- The wait for the source of the transfer out in direction `d`: the source back, the cell closed at zero. -/
theorem sent_step (c : Dev nD) (d : Dir) {C : Prop} [Decidable C] (hC : C ↔ has d c = true) (w : C → TpuEff nD τ sig (Elt F) Λ₀ .tc PUnit)
    (hw : ∀ (h : C) (Kt : PUnit → sProp 𝕄), wpE (defs₀ (F := F)) 𝒱₀ (c : Thread nD τ) none Set.univ (w h) Kt = waitSpec (c : Thread nD τ) Set.univ (.dma (sendS d)) (amt d) Kt)
    {α : Type} (X : Prog (TpuEff nD τ sig (Elt F) Λ₀ .tc) α) (Q : α → sProp 𝕄) :
    iprop(records m ρ K ∗ owesE c 0 ∗ sent m ρ d c ∗ atPos ER (sendCell d c) 0 ∅ 0)
      ⊢ iprop(((owesE c 0 ∗ srcPts m ρ d c ∗ semVal (sendCell d c) 0) -∗ wp frame (wpE (defs₀ (F := F)) 𝒱₀ (c : Thread nD τ) none) Set.univ X Q)
        -∗ wp frame (wpE (defs₀ (F := F)) 𝒱₀ (c : Thread nD τ) none) Set.univ
          (if h : C then (Prog.lift (w h) >>= fun _ => X) else X) Q) := by
  unfold owesE sent
  iintro ⟨#Hrec, ⟨%W, HO⟩, Hs, Hat⟩ Hk
  by_cases h : C
  · have hh := hC.mp h
    rw [dif_pos h]
    simp only [Prog.lift, Prog.bind_op, Prog.bind_ret, if_pos hh]
    iapply (Rounds.wp_wait_rest_token 𝒱₀ ER (rd m ρ) (c : Thread nD τ) none (κ := K (c, sSlot d)) (hw h) (Set.mem_univ _) () (O := 0) (W := W)
      (R := 0) (m := 0) (T := ∅) (by rw [Nat.zero_add, expect_send m ρ c d hh])) $$ [Hs HO Hat]
    · isplitr; · iapply (inv_send m ρ K d c); iexact Hrec
      isplitl [Hs]; · iexact Hs
      isplitl [HO]; · iexact HO
      isplitr; · rw [MayWait_zero]; iempintro
      iexact Hat
    iintro ⟨HO, Hat, -, Hp⟩
    ihave Hp' := (Entails.of_eq (rest_send m ρ c d hh)) $$ Hp
    imod (Rounds.cell_close ER (rd m ρ) (Set.mem_univ (K (c, sSlot d))) (fun h => h) (R := 0 + 1) (duties_later m ρ (sendCell d c))) $$ [Hat] with Hz
    · isplitr; · iapply (inv_send m ρ K d c); iexact Hrec
      iexact Hat
    iapply Hk
    isplitl [HO]; · iexists _; iexact HO
    isplitl [Hp']; · iexact Hp'
    iexact Hz
  · have hh : ¬ has d c = true := fun e => h (hC.mpr e)
    simp only [dif_neg h, if_neg hh]
    have hcl := Rounds.cell_close ER (rd m ρ) (Set.mem_univ (K (c, sSlot d))) (fun h => h) (R := 0) (duties_send_none m ρ c d hh)
    imod hcl $$ [Hat] with Hz
    · isplitr; · iapply (inv_send m ρ K d c); iexact Hrec
      iexact Hat
    iapply Hk
    isplitl [HO]; · iexists _; iexact HO
    isplitl [Hs]; · iexact Hs
    iexact Hz

/-! ## The result's faces -/

/-- The result's buffer of device `c`, holding `f`. -/
def oPts (c : Dev nD) (f : (cc0_stg1_0 : Ref sig .tc).ty.Contents (Elt F)) : sProp 𝕄 := ((c : Thread nD τ).loc cc0_stg1_0) ↦{fullShare} f

/-- `f` with the face `r` replaced by `w`. -/
def putFace (r : Rect S32x32x32) (f : (cc0_stg1_0 : Ref sig .tc).ty.Contents (Elt F)) (w : r.shape.Idx → Elt F .f32) : (cc0_stg1_0 : Ref sig .tc).ty.Contents (Elt F) :=
  ((oM : Memref sig .tc .vmem S32x32x32 .f32).access r : View sig .tc _ _ _).write (Elt F) f w Finset.univ
/-- The face `r` of `f`. -/
def getFace (r : Rect S32x32x32) (f : (cc0_stg1_0 : Ref sig .tc).ty.Contents (Elt F)) : r.shape.Idx → Elt F .f32 :=
  (oM : Memref sig .tc .vmem S32x32x32 .f32).view.readAt (Elt F) r.toLoadRect f

/-- The wait for the transfer into `c` from direction `d`, and the addition of what arrived to the result's face:
    the result changed where there is a neighbour, the landing buffer back, the cell closed at zero. -/
theorem recv_step (c : Dev nD) (d : Dir) {C : Prop} [Decidable C] (hC : C ↔ has d c = true) (w : C → TpuEff nD τ sig (Elt F) Λ₀ .tc PUnit)
    (hw : ∀ (h : C) (Kt : PUnit → sProp 𝕄), wpE (defs₀ (F := F)) 𝒱₀ (c : Thread nD τ) none Set.univ (w h) Kt = waitSpec (c : Thread nD τ) Set.univ (.dma (recvS d)) (amt d) Kt)
    (r : Rect S32x32x32) {s : Shape} (hm : Memref sig .tc .vmem s .f32) (rh : Rect s) (fh : Buf (Elt F) (hm.view.loc (c : Thread nD τ)))
    (hh : hPts d c (landed m ρ d c) = (hm.view.loc (c : Thread nD τ) ↦[Finset.univ]{fullShare} fh))
    (pay : (r.shape.Idx → Elt F .f32) → (rh.shape.Idx → Elt F .f32) → r.shape.Idx → Elt F .f32)
    {hl₁ hl₂ hl₃ hst hu} (f : (cc0_stg1_0 : Ref sig .tc).ty.Contents (Elt F))
    {α : Type} (X : Prog (TpuEff nD τ sig (Elt F) Λ₀ .tc) α) (Q : α → sProp 𝕄) :
    iprop(records m ρ K ∗ owesE c 0 ∗ cred (rc d c) ∗ hLeft d c ∗ atPos ER (recvCell d c) 0 ∅ 0 ∗ oPts c f)
      ⊢ iprop(((owesE c 0 ∗ hAny d c ∗ semVal (recvCell d c) 0
            ∗ oPts c (if has d c then putFace r f (pay (getFace r f) (hm.view.readAt (Elt F) rh.toLoadRect fh)) else f))
          -∗ wp frame (wpE (defs₀ (F := F)) 𝒱₀ (c : Thread nD τ) none) Set.univ X Q)
        -∗ wp frame (wpE (defs₀ (F := F)) 𝒱₀ (c : Thread nD τ) none) Set.univ
          (if h : C then (Prog.lift (w h) >>= fun _ => Prog.lift (.load oM r.toLoadRect hl₁) >>= fun a => Prog.lift (.load hm rh.toLoadRect hl₂) >>= fun b =>
            Prog.lift (.load oM r.toLoadRect hl₃) >>= fun _ => Prog.lift (.store oM r (pay a b) Finset.univ hst hu) >>= fun _ => X) else X) Q) := by
  unfold owesE hLeft rc oPts
  iintro ⟨#Hrec, ⟨%W, HO⟩, Hc, Hb, Hat, Ho⟩ Hk
  by_cases h : C
  · have hd := hC.mp h
    rw [dif_pos h]
    simp only [Prog.lift, Prog.bind_op, Prog.bind_ret, if_pos hd]
    iapply (Rounds.wp_wait_rest_token 𝒱₀ ER (rd m ρ) (c : Thread nD τ) none (κ := K (c, rSlot d)) (hw h) (Set.mem_univ _) () (O := 0) (W := W)
      (R := 0) (m := 0) (T := ∅) (by rw [Nat.zero_add, expect_recv m ρ c d hd])) $$ [Hc HO Hat]
    · isplitr; · iapply (inv_recv m ρ K d c); iexact Hrec
      isplitl [Hc]; · iexact Hc
      isplitl [HO]; · iexact HO
      isplitr; · rw [MayWait_zero]; iempintro
      iexact Hat
    iintro ⟨HO, Hat, -, Hp⟩
    ihave Hp' := (Entails.of_eq ((rest_recv m ρ c d hd).trans hh)) $$ Hp
    imod (Rounds.cell_close ER (rd m ρ) (Set.mem_univ (K (c, rSlot d))) (fun h => h) (R := 0 + 1) (duties_later m ρ (recvCell d c))) $$ [Hat] with Hz
    · isplitr; · iapply (inv_recv m ρ K d c); iexact Hrec
      iexact Hat
    iapply (wp_load 𝒱₀ (c : Thread nD τ) none Set.univ (m := oM) (r := r.toLoadRect) (Finset.subset_univ _)) $$ Ho
    iintro Ho
    iapply (wp_load 𝒱₀ (c : Thread nD τ) none Set.univ (m := hm) (r := rh.toLoadRect) (Finset.subset_univ _)) $$ Hp'
    iintro Hp'
    iapply (wp_load 𝒱₀ (c : Thread nD τ) none Set.univ (m := oM) (r := r.toLoadRect) (Finset.subset_univ _)) $$ Ho
    iintro Ho
    iapply (wp_store 𝒱₀ (c : Thread nD τ) none Set.univ (m := oM) (r := r) (Finset.subset_univ _)) $$ Ho
    iintro Ho
    iapply Hk
    isplitl [HO]; · iexists _; iexact HO
    isplitl [Hp']; · unfold hAny; iexists (landed m ρ d c); rw [hh]; iexact Hp'
    isplitl [Hz]; · iexact Hz
    iexact Ho
  · have hd : ¬ has d c = true := fun e => h (hC.mpr e)
    simp only [dif_neg h, if_neg hd]
    have hcl := Rounds.cell_close ER (rd m ρ) (Set.mem_univ (K (c, rSlot d))) (fun h => h) (R := 0) (duties_recv_none m ρ c d hd)
    imod hcl $$ [Hat] with Hz
    · isplitr; · iapply (inv_recv m ρ K d c); iexact Hrec
      iexact Hat
    iapply Hk
    isplitl [HO]; · iexists _; iexact HO
    isplitl [Hb]; · iexact Hb
    isplitl [Hz]; · iexact Hz
    iexact Ho

/-- The face set to `z` where the mesh ends in direction `d`. -/
theorem zero_step (c : Dev nD) (d : Dir) {C : Prop} [Decidable C] (hC : C ↔ ¬ has d c = true) (r : Rect S32x32x32) (z : r.shape.Idx → Elt F .f32)
    {hl₁ hst hu} (f : (cc0_stg1_0 : Ref sig .tc).ty.Contents (Elt F)) {α : Type} (X : Prog (TpuEff nD τ sig (Elt F) Λ₀ .tc) α) (Q : α → sProp 𝕄) :
    oPts c f
      ⊢ iprop((oPts c (if has d c then f else putFace r f z) -∗ wp frame (wpE (defs₀ (F := F)) 𝒱₀ (c : Thread nD τ) none) Set.univ X Q)
        -∗ wp frame (wpE (defs₀ (F := F)) 𝒱₀ (c : Thread nD τ) none) Set.univ
          (if h : C then (Prog.lift (.load oM r.toLoadRect hl₁) >>= fun _ => Prog.lift (.store oM r z Finset.univ hst hu) >>= fun _ => X) else X) Q) := by
  unfold oPts
  iintro Ho Hk
  by_cases h : C
  · rw [dif_pos h, if_neg (hC.mp h)]
    simp only [Prog.lift, Prog.bind_op, Prog.bind_ret]
    iapply (wp_load 𝒱₀ (c : Thread nD τ) none Set.univ (m := oM) (r := r.toLoadRect) (Finset.subset_univ _)) $$ Ho
    iintro Ho
    iapply (wp_store 𝒱₀ (c : Thread nD τ) none Set.univ (m := oM) (r := r) (Finset.subset_univ _)) $$ Ho
    iintro Ho
    iapply Hk
    iexact Ho
  · rw [dif_neg h, if_pos (not_not.mp fun e => h (hC.mpr e))]
    iapply Hk
    iexact Ho

end Cert.Halo

end
-- ==== Proof.Parts.lean ====
/-
The kernel's body, part by part: what each part takes and gives, the rules of the guarded operations applied in order.
-/
module

public import proofs.«01_k».proof.Proof.Steps

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 13 → ℕ)

/-- The landing buffers, whole. -/
abbrev h0M : Memref sig .tc .vmem S1x32x32 .f32 := Memref.whole cc0_scratch2
abbrev h1M : Memref sig .tc .vmem S1x32x32 .f32 := Memref.whole cc0_scratch3
abbrev h2M : Memref sig .tc .vmem S32x1x32 .f32 := Memref.whole cc0_scratch4
abbrev h3M : Memref sig .tc .vmem S32x1x32 .f32 := Memref.whole cc0_scratch5
abbrev h4M : Memref sig .tc .vmem S32x32x1 .f32 := Memref.whole cc0_scratch6
abbrev h5M : Memref sig .tc .vmem S32x32x1 .f32 := Memref.whole cc0_scratch7

/-- The token of the neighbour's barrier duty that the signal in direction `d` pays. -/
abbrev tokB (d : Dir) (c : Dev nD) : sProp 𝕄 := dutyTok ER (barCell (nb d c)) 0 (opp d)
/-- The tokens of the two duties that the transfer in direction `d` pays: on the sender's cell and on the neighbour's. -/
abbrev tokS (d : Dir) (c : Dev nD) : sProp 𝕄 := dutyTok ER (sendCell d c) 0 0
abbrev tokR (d : Dir) (c : Dev nD) : sProp 𝕄 := dutyTok ER (recvCell (opp d) (nb d c)) 0 0

/-- The half share of the argument's block that stays with the kernel's loads. -/
def uKeep (c : Dev nD) : sProp 𝕄 := ((c : Thread nD τ).loc cc0_stg0_0) ↦{fullShare.left} xstg m ρ c
/-- The buffers of the staged faces, and the result's, at some contents. -/
def zloAny (c : Dev nD) : sProp 𝕄 := iprop(∃ f : (cc0_scratch0 : Ref sig .tc).ty.Contents (Elt F), ((c : Thread nD τ).loc cc0_scratch0) ↦{fullShare} f)
def zhiAny (c : Dev nD) : sProp 𝕄 := iprop(∃ f : (cc0_scratch1 : Ref sig .tc).ty.Contents (Elt F), ((c : Thread nD τ).loc cc0_scratch1) ↦{fullShare} f)

/-! ## A transfer's ends, read as whole buffers -/

omit [FloatOps F] in
theorem whole_any (n : Dev nD) (b : Ref sig .tc) :
    (iprop(∃ f : b.ty.Contents (Elt F), ((n : Thread nD τ).loc b) ↦{fullShare} f) : sProp 𝕄)
      ⊢ iprop(∃ fd : Buf (Elt F) ((Memref.whole b : Memref sig .tc _ _ _).view.loc (n : Thread nD τ)),
          (Memref.whole b : Memref sig .tc _ _ _).view.loc (n : Thread nD τ) ↦[(Memref.whole b : Memref sig .tc _ _ _).view.set]{fullShare} fd) := by
  have h : (Memref.whole b : Memref sig .tc _ _ _).view.set = Finset.univ := View.set_whole b
  rw [h]

omit [FloatOps F] in
theorem whole_landed (n : Dev nD) (b : Ref sig .tc) (fd w f : b.ty.Contents (Elt F)) (e : w = f) :
    ((Memref.whole b : Memref sig .tc _ _ _).view.loc (n : Thread nD τ) ↦[(Memref.whole b : Memref sig .tc _ _ _).view.set]{fullShare}
        ((Memref.whole b : Memref sig .tc _ _ _).view.write (Elt F) fd w Finset.univ) : sProp 𝕄)
      ⊢ (((n : Thread nD τ).loc b) ↦{fullShare} f) := by
  have h : (Memref.whole b : Memref sig .tc _ _ _).view.set = Finset.univ := View.set_whole b
  have h' : (Memref.whole b : Memref sig .tc _ _ _).view.write (Elt F) fd w Finset.univ = w := View.write_whole_univ b fd w
  rw [h, h', e]

omit [FloatOps F] in
/-- A whole buffer is its view's elements. -/
theorem whole_set (n : Dev nD) (b : Ref sig .tc) (f : b.ty.Contents (Elt F)) :
    (((n : Thread nD τ).loc b) ↦{fullShare} f : sProp 𝕄)
      = ((Memref.whole b : Memref sig .tc _ _ _).view.loc (n : Thread nD τ) ↦[(Memref.whole b : Memref sig .tc _ _ _).view.set]{fullShare} f) := by
  have h : (Memref.whole b : Memref sig .tc _ _ _).view.set = Finset.univ := View.set_whole b
  rw [h]

/-- What a transfer delivers is what its receiver expects: the receiver's neighbour back is the sender. -/
theorem landed_0 (c : Dev nD) : xloM.view.read (Elt F) (xstg m ρ c) = landed m ρ 1 (nb 0 c) := by
  show _ = xloM.view.read (Elt F) (xstg m ρ (nb (opp 0) (nb 0 c))); rw [nb_opp_nb]
theorem landed_1 (c : Dev nD) : xhiM.view.read (Elt F) (xstg m ρ c) = landed m ρ 0 (nb 1 c) := by
  show _ = xhiM.view.read (Elt F) (xstg m ρ (nb (opp 1) (nb 1 c))); rw [nb_opp_nb]
theorem landed_2 (c : Dev nD) : yloM.view.read (Elt F) (xstg m ρ c) = landed m ρ 3 (nb 2 c) := by
  show _ = yloM.view.read (Elt F) (xstg m ρ (nb (opp 2) (nb 2 c))); rw [nb_opp_nb]
theorem landed_3 (c : Dev nD) : yhiM.view.read (Elt F) (xstg m ρ c) = landed m ρ 2 (nb 3 c) := by
  show _ = yhiM.view.read (Elt F) (xstg m ρ (nb (opp 3) (nb 3 c))); rw [nb_opp_nb]
theorem landed_4 (c : Dev nD) : zloM.view.read (Elt F) (zlo m ρ c) = landed m ρ 5 (nb 4 c) := by
  show zlo m ρ c = zlo m ρ (nb (opp 4) (nb 4 c)); rw [nb_opp_nb]
theorem landed_5 (c : Dev nD) : zhiM.view.read (Elt F) (zhi m ρ c) = landed m ρ 4 (nb 5 c) := by
  show zhi m ρ c = zhi m ρ (nb (opp 5) (nb 5 c)); rw [nb_opp_nb]

/-- The end of a program. -/
theorem ret_intro (c : Dev nD) {α : Type} (a : α) (Q : α → sProp 𝕄) :
    Q a ⊢ wp frame (wpE (defs₀ (F := F)) 𝒱₀ (c : Thread nD τ) none) Set.univ (Pure.pure a) Q := by
  rw [Prog.pure_eq_ret, wp_ret]
  iintro H; imodintro; iexact H

omit [FloatOps F] in
/-- One resource for each direction, listed. -/
theorem six (Φ : Dir → sProp 𝕄) : bigSep Finset.univ Φ = iprop(Φ 0 ∗ Φ 1 ∗ Φ 2 ∗ Φ 3 ∗ Φ 4 ∗ Φ 5) :=
  bigSep_univ_eq_bigSepL all (by decide) (by decide) Φ

theorem hz3 : (![0, 0, 0] : Fin 3 → ℕ) = fun _ => 0 := by funext a; fin_cases a <;> rfl

/-! ## The result, step by step -/

/-- The result before any halo: the block's own neighbour sums. -/
def out0 (c : Dev nD) : (cc0_stg1_0 : Ref sig .tc).ty.Contents (Elt F) := k0_pay6 (xstg m ρ c)

/-- The halo from direction `d`, loaded whole. -/
abbrev rhx : Rect S1x32x32 := Rect.unit (s := S1x32x32) ![0, 0, 0] S1x32x32.size inb_S1x32x32_S1x32x32_0_0_0
abbrev rhy : Rect S32x1x32 := Rect.unit (s := S32x1x32) ![0, 0, 0] S32x1x32.size inb_S32x1x32_S32x1x32_0_0_0
abbrev rhz : Rect S32x32x1 := Rect.unit (s := S32x32x1) ![0, 0, 0] S32x32x1.size inb_S32x32x1_S32x32x1_0_0_0

/-- The halo from direction `d` added to the face it adjoins, where there is one. -/
def addF (d : Dir) (c : Dev nD) (f : (cc0_stg1_0 : Ref sig .tc).ty.Contents (Elt F)) : (cc0_stg1_0 : Ref sig .tc).ty.Contents (Elt F) :=
  match d with
  | 0 => if has 0 c then putFace rx0 f (k0_pay7 (getFace rx0 f) (h0M.view.readAt (Elt F) rhx.toLoadRect (landed m ρ 0 c))) else f
  | 1 => if has 1 c then putFace rx1 f (k0_pay8 (getFace rx1 f) (h1M.view.readAt (Elt F) rhx.toLoadRect (landed m ρ 1 c))) else f
  | 2 => if has 2 c then putFace ry0 f (k0_pay9 (getFace ry0 f) (h2M.view.readAt (Elt F) rhy.toLoadRect (landed m ρ 2 c))) else f
  | 3 => if has 3 c then putFace ry1 f (k0_pay10 (getFace ry1 f) (h3M.view.readAt (Elt F) rhy.toLoadRect (landed m ρ 3 c))) else f
  | 4 => if has 4 c then putFace rz0 f (k0_pay11 (getFace rz0 f) (h4M.view.readAt (Elt F) rhz.toLoadRect (landed m ρ 4 c))) else f
  | 5 => if has 5 c then putFace rz1 f (k0_pay12 (getFace rz1 f) (h5M.view.readAt (Elt F) rhz.toLoadRect (landed m ρ 5 c))) else f

/-- The face towards `d` set to zero, where the mesh ends there. -/
def zeroF (d : Dir) (c : Dev nD) (f : (cc0_stg1_0 : Ref sig .tc).ty.Contents (Elt F)) : (cc0_stg1_0 : Ref sig .tc).ty.Contents (Elt F) :=
  match d with
  | 0 => if has 0 c then f else putFace rx0 f k0_pay3
  | 1 => if has 1 c then f else putFace rx1 f k0_pay3
  | 2 => if has 2 c then f else putFace ry0 f k0_pay4
  | 3 => if has 3 c then f else putFace ry1 f k0_pay4
  | 4 => if has 4 c then f else putFace rz0 f k0_pay5
  | 5 => if has 5 c then f else putFace rz1 f k0_pay5

/-- The result with all halos added, and with the faces at the mesh's ends zeroed. -/
def outA (c : Dev nD) : (cc0_stg1_0 : Ref sig .tc).ty.Contents (Elt F) :=
  addF m ρ 5 c (addF m ρ 4 c (addF m ρ 3 c (addF m ρ 2 c (addF m ρ 1 c (addF m ρ 0 c (out0 m ρ c))))))
def outZ (c : Dev nD) : (cc0_stg1_0 : Ref sig .tc).ty.Contents (Elt F) :=
  zeroF 5 c (zeroF 4 c (zeroF 3 c (zeroF 2 c (zeroF 1 c (zeroF 0 c (outA m ρ c))))))

/-! ## The parts -/

/-- The first part: four of the six signals. -/
theorem part1_spec (c : Dev nD) (Q : _ → sProp 𝕄) :
    iprop(records m ρ K ∗ owesE c (oB c all) ∗ (tokB 0 c ∗ hAny 0 c) ∗ (tokB 1 c ∗ hAny 1 c) ∗ (tokB 2 c ∗ hAny 2 c) ∗ (tokB 3 c ∗ hAny 3 c))
      ⊢ iprop(((owesE c (oB c [4, 5]) ∗ hLeft 0 c ∗ hLeft 1 c ∗ hLeft 2 c ∗ hLeft 3 c)
          -∗ Q ⟨c, cx c, cy c, cz c, flag 0 c, flag 1 c, flag 2 c, flag 3 c, flag 4 c, flag 5 c, SemArray.scalar (sig.barrier 0 rfl),
            Scalar.subi (cz c) 1#32, Scalar.addi (cz c) 1#32⟩)
        -∗ wp frame (wpE (defs₀ (F := F)) 𝒱₀ (c : Thread nD τ) none) Set.univ
          (k0_part1 uM (Memref.isWhole_whole _) oM (Memref.isWhole_whole _) zloM (Memref.isWhole_whole _) zhiM (Memref.isWhole_whole _)
            h0M (Memref.isWhole_whole _) h1M (Memref.isWhole_whole _) h2M (Memref.isWhole_whole _) h3M (Memref.isWhole_whole _)
            h4M (Memref.isWhole_whole _) h5M (Memref.isWhole_whole _) cc0_scratch8 cc0_scratch9) Q) := by
  rw [k0_part1_eq_skeleton]
  unfold k0_part1_skel
  iintro ⟨#Hrec, HO, ⟨Ht0, Hb0⟩, ⟨Ht1, Hb1⟩, ⟨Ht2, Hb2⟩, ⟨Ht3, Hb3⟩⟩ Hk
  unfold flag cx cy cz
  rw [Prog.bind_lift, wp_deviceId]
  iapply (signal_step m ρ K c 0 [1, 2, 3, 4, 5] (cond1_iff c) _ (dev1_eq c)) $$ [HO Ht0 Hb0]
  · isplitr; · iexact Hrec
    isplitl [HO]; · iexact HO
    isplitl [Ht0]; · iexact Ht0
    iexact Hb0
  iintro ⟨HO, Hl0⟩
  iapply (signal_step m ρ K c 1 [2, 3, 4, 5] (cond2_iff c) _ (dev2_eq c)) $$ [HO Ht1 Hb1]
  · isplitr; · iexact Hrec
    isplitl [HO]; · iexact HO
    isplitl [Ht1]; · iexact Ht1
    iexact Hb1
  iintro ⟨HO, Hl1⟩
  iapply (signal_step m ρ K c 2 [3, 4, 5] (cond3_iff c) _ (dev3_eq c)) $$ [HO Ht2 Hb2]
  · isplitr; · iexact Hrec
    isplitl [HO]; · iexact HO
    isplitl [Ht2]; · iexact Ht2
    iexact Hb2
  iintro ⟨HO, Hl2⟩
  iapply (signal_step m ρ K c 3 [4, 5] (cond4_iff c) _ (dev4_eq c)) $$ [HO Ht3 Hb3]
  · isplitr; · iexact Hrec
    isplitl [HO]; · iexact HO
    isplitl [Ht3]; · iexact Ht3
    iexact Hb3
  iintro ⟨HO, Hl3⟩
  iapply ret_intro
  iapply Hk
  isplitl [HO]; · iexact HO
  isplitl [Hl0]; · iexact Hl0
  isplitl [Hl1]; · iexact Hl1
  isplitl [Hl2]; · iexact Hl2
  iexact Hl3

set_option maxHeartbeats 2000000 in
/-- The second part: the other two signals, the barrier's waits, four of the six transfers, and the first staged face. -/
theorem part2_spec (c : Dev nD) (Q : PUnit → sProp 𝕄) :
    iprop(records m ρ K ∗ levAts L lv ∗ owesE c (oB c [4, 5]) ∗ (tokB 4 c ∗ hAny 4 c) ∗ (tokB 5 c ∗ hAny 5 c) ∗ waitInv c all ∗ (srcPts m ρ 0 c ∗ tokS 0 c ∗ tokR 0 c) ∗ (srcPts m ρ 1 c ∗ tokS 1 c ∗ tokR 1 c) ∗ (srcPts m ρ 2 c ∗ tokS 2 c ∗ tokR 2 c) ∗ (srcPts m ρ 3 c ∗ tokS 3 c ∗ tokR 3 c) ∗ uKeep m ρ c ∗ zloAny c)
      ⊢ iprop(((owesE c (oR c [4, 5]) ∗ hLeft 4 c ∗ hLeft 5 c ∗ semVal (barCell c) 0 ∗ nbBuf 4 c ∗ nbBuf 5 c ∗ sent m ρ 0 c ∗ sent m ρ 1 c ∗ sent m ρ 2 c ∗ sent m ρ 3 c ∗ uKeep m ρ c ∗ srcPts m ρ 4 c) -∗ Q ⟨⟩)
        -∗ wp frame (wpE (defs₀ (F := F)) 𝒱₀ (c : Thread nD τ) none) Set.univ
          (k0_part2 uM (Memref.isWhole_whole _) oM (Memref.isWhole_whole _) zloM (Memref.isWhole_whole _) zhiM (Memref.isWhole_whole _)
            h0M (Memref.isWhole_whole _) h1M (Memref.isWhole_whole _) h2M (Memref.isWhole_whole _) h3M (Memref.isWhole_whole _)
            h4M (Memref.isWhole_whole _) h5M (Memref.isWhole_whole _) cc0_scratch8 cc0_scratch9 c (cx c) (cy c) (cz c)
            (flag 0 c) (flag 1 c) (flag 2 c) (flag 3 c) (flag 4 c) (flag 5 c) (SemArray.scalar (sig.barrier 0 rfl))
            (Scalar.subi (cz c) 1#32) (Scalar.addi (cz c) 1#32)) Q) := by
  rw [k0_part2_eq_skeleton]
  unfold k0_part2_skel
  iintro ⟨#Hrec, #Hlev, HO, ⟨Ht4, Hb4⟩, ⟨Ht5, Hb5⟩, Hw, ⟨Hs0, HtS0, HtR0⟩, ⟨Hs1, HtS1, HtR1⟩, ⟨Hs2, HtS2, HtR2⟩, ⟨Hs3, HtS3, HtR3⟩, Hu, Hz⟩ Hk
  iapply (signal_step m ρ K c 4 [5] (cond5_iff c) _ (dev5_eq c)) $$ [HO Ht4 Hb4]
  · isplitr; · iexact Hrec
    isplitl [HO]; · iexact HO
    isplitl [Ht4]; · iexact Ht4
    iexact Hb4
  iintro ⟨HO, Hl4⟩
  iapply (signal_step m ρ K c 5 [] (cond6_iff c) _ (dev6_eq c)) $$ [HO Ht5 Hb5]
  · isplitr; · iexact Hrec
    isplitl [HO]; · iexact HO
    isplitl [Ht5]; · iexact Ht5
    iexact Hb5
  iintro ⟨HO, Hl5⟩
  iapply (wait_step m ρ K c 0 [1, 2, 3, 4, 5] (flag_iff 0 c)) $$ [HO Hw]
  · isplitr; · iexact Hrec
    isplitr; · iexact Hlev
    isplitl [HO]; · iexact HO
    iexact Hw
  iintro ⟨HO, Hw⟩
  iapply (wait_step m ρ K c 1 [2, 3, 4, 5] (flag_iff 1 c)) $$ [HO Hw]
  · isplitr; · iexact Hrec
    isplitr; · iexact Hlev
    isplitl [HO]; · iexact HO
    iexact Hw
  iintro ⟨HO, Hw⟩
  iapply (wait_step m ρ K c 2 [3, 4, 5] (flag_iff 2 c)) $$ [HO Hw]
  · isplitr; · iexact Hrec
    isplitr; · iexact Hlev
    isplitl [HO]; · iexact HO
    iexact Hw
  iintro ⟨HO, Hw⟩
  iapply (wait_step m ρ K c 3 [4, 5] (flag_iff 3 c)) $$ [HO Hw]
  · isplitr; · iexact Hrec
    isplitr; · iexact Hlev
    isplitl [HO]; · iexact HO
    iexact Hw
  iintro ⟨HO, Hw⟩
  iapply (wait_step m ρ K c 4 [5] (flag_iff 4 c)) $$ [HO Hw]
  · isplitr; · iexact Hrec
    isplitr; · iexact Hlev
    isplitl [HO]; · iexact HO
    iexact Hw
  iintro ⟨HO, Hw⟩
  iapply (wait_step m ρ K c 5 [] (flag_iff 5 c)) $$ [HO Hw]
  · isplitr; · iexact Hrec
    isplitr; · iexact Hlev
    isplitl [HO]; · iexact HO
    iexact Hw
  iintro ⟨HO, Hw⟩
  imod (wait_done m ρ K c) $$ [Hw] with ⟨Hbar, Hn⟩
  · isplitr; · iexact Hrec
    iexact Hw
  ihave Hn' := (Entails.of_eq (six (fun d => nbBuf (F := F) d c))) $$ Hn
  icases Hn' with ⟨Hn0, Hn1, Hn2, Hn3, Hn4, Hn5⟩
  iapply (send_step m ρ K c 0 [1, 2, 3, 4, 5] (cond13_iff c) _ (dev7_eq c) xloM h1M _ _ rfl rfl rfl (qS 0) (xstg m ρ c) rfl
    (whole_any (nb 0 c) cc0_scratch3) (fun fd => whole_landed (nb 0 c) cc0_scratch3 fd _ _ (landed_0 m ρ c))) $$ [HO Hn0 Hs0 HtS0 HtR0]
  · isplitr; · iexact Hrec
    isplitl [HO]; · iexact HO
    isplitl [Hn0]; · iexact Hn0
    isplitl [Hs0]; · iexact Hs0
    isplitl [HtS0]; · iexact HtS0
    iexact HtR0
  iintro ⟨HO, Hs0⟩
  iapply (send_step m ρ K c 1 [2, 3, 4, 5] (cond14_iff c) _ (dev8_eq c) xhiM h0M _ _ rfl rfl rfl (qS 1) (xstg m ρ c) rfl
    (whole_any (nb 1 c) cc0_scratch2) (fun fd => whole_landed (nb 1 c) cc0_scratch2 fd _ _ (landed_1 m ρ c))) $$ [HO Hn1 Hs1 HtS1 HtR1]
  · isplitr; · iexact Hrec
    isplitl [HO]; · iexact HO
    isplitl [Hn1]; · iexact Hn1
    isplitl [Hs1]; · iexact Hs1
    isplitl [HtS1]; · iexact HtS1
    iexact HtR1
  iintro ⟨HO, Hs1⟩
  iapply (send_step m ρ K c 2 [3, 4, 5] (cond15_iff c) _ (dev9_eq c) yloM h3M _ _ rfl rfl rfl (qS 2) (xstg m ρ c) rfl
    (whole_any (nb 2 c) cc0_scratch5) (fun fd => whole_landed (nb 2 c) cc0_scratch5 fd _ _ (landed_2 m ρ c))) $$ [HO Hn2 Hs2 HtS2 HtR2]
  · isplitr; · iexact Hrec
    isplitl [HO]; · iexact HO
    isplitl [Hn2]; · iexact Hn2
    isplitl [Hs2]; · iexact Hs2
    isplitl [HtS2]; · iexact HtS2
    iexact HtR2
  iintro ⟨HO, Hs2⟩
  iapply (send_step m ρ K c 3 [4, 5] (cond16_iff c) _ (dev10_eq c) yhiM h2M _ _ rfl rfl rfl (qS 3) (xstg m ρ c) rfl
    (whole_any (nb 3 c) cc0_scratch4) (fun fd => whole_landed (nb 3 c) cc0_scratch4 fd _ _ (landed_3 m ρ c))) $$ [HO Hn3 Hs3 HtS3 HtR3]
  · isplitr; · iexact Hrec
    isplitl [HO]; · iexact HO
    isplitl [Hn3]; · iexact Hn3
    isplitl [Hs3]; · iexact Hs3
    isplitl [HtS3]; · iexact HtS3
    iexact HtR3
  iintro ⟨HO, Hs3⟩
  unfold uKeep zloAny
  icases Hz with ⟨%fz, Hz⟩
  simp only [Prog.bind_lift]
  iapply (wp_load 𝒱₀ (c : Thread nD τ) none Set.univ (m := uM) (r := rz0.toLoadRect) (Finset.subset_univ _)) $$ Hu
  iintro Hu
  iapply (wp_load 𝒱₀ (c : Thread nD τ) none Set.univ (m := zloM) (r := rhz.toLoadRect) (Finset.subset_univ _)) $$ Hz
  iintro Hz
  iapply (wp_store 𝒱₀ (c : Thread nD τ) none Set.univ (m := zloM) (r := rhz) (Finset.subset_univ _)) $$ Hz
  iintro Hz
  have hw : ((zloM.access rhz : View sig .tc _ _ _).write (Elt F) fz (k0_pay1 (uM.view.readAt (Elt F) rz0.toLoadRect (xstg m ρ c))) Finset.univ) = zlo m ρ c :=
    Memref.write_access_unit_zero_univ (Elt F) cc0_scratch0 hz3 _ fz _
  have he : (((c : Thread nD τ).loc cc0_scratch0) ↦{fullShare} ((zloM.access rhz : View sig .tc _ _ _).write (Elt F) fz (k0_pay1 (uM.view.readAt (Elt F) rz0.toLoadRect (xstg m ρ c))) Finset.univ) : sProp 𝕄)
      = srcPts m ρ 4 c := by rw [hw]; rfl
  ihave Hs4 := (Entails.of_eq he) $$ Hz
  iapply ret_intro
  iapply Hk
  isplitl [HO]; · iexact HO
  isplitl [Hl4]; · iexact Hl4
  isplitl [Hl5]; · iexact Hl5
  isplitl [Hbar]; · iexact Hbar
  isplitl [Hn4]; · iexact Hn4
  isplitl [Hn5]; · iexact Hn5
  isplitl [Hs0]; · iexact Hs0
  isplitl [Hs1]; · iexact Hs1
  isplitl [Hs2]; · iexact Hs2
  isplitl [Hs3]; · iexact Hs3
  isplitl [Hu]; · iexact Hu
  iexact Hs4

set_option maxHeartbeats 2000000 in
/-- The third part: the second staged face, the last two transfers, the block's own sums, and the first halo. -/
theorem part3_spec (c : Dev nD) (Q : _ → sProp 𝕄) :
    iprop(records m ρ K ∗ owesE c (oR c [4, 5]) ∗ nbBuf 4 c ∗ nbBuf 5 c ∗ srcPts m ρ 4 c ∗ zhiAny c ∗ tokS 4 c ∗ tokR 4 c ∗ tokS 5 c ∗ tokR 5 c ∗ uKeep m ρ c ∗ (∃ f, oPts c f) ∗ cred (rc 0 c) ∗ hLeft 0 c ∗ atPos ER (recvCell 0 c) 0 ∅ 0)
      ⊢ iprop(((owesE c 0 ∗ sent m ρ 4 c ∗ sent m ρ 5 c ∗ uKeep m ρ c ∗ hAny 0 c ∗ semVal (recvCell 0 c) 0 ∗ oPts c (addF m ρ 0 c (out0 m ρ c)))
          -∗ Q ⟨k0_pay3 (F := F), k0_pay4 (F := F), k0_pay5 (F := F), Scalar.extui (flag 1 c), 0#32⟩)
        -∗ wp frame (wpE (defs₀ (F := F)) 𝒱₀ (c : Thread nD τ) none) Set.univ
          (k0_part3 uM (Memref.isWhole_whole _) oM (Memref.isWhole_whole _) zloM (Memref.isWhole_whole _) zhiM (Memref.isWhole_whole _)
            h0M (Memref.isWhole_whole _) h1M (Memref.isWhole_whole _) h2M (Memref.isWhole_whole _) h3M (Memref.isWhole_whole _)
            h4M (Memref.isWhole_whole _) h5M (Memref.isWhole_whole _) cc0_scratch8 cc0_scratch9 c (cx c) (cy c) (cz c)
            (flag 0 c) (flag 1 c) (flag 4 c) (flag 5 c)) Q) := by
  rw [k0_part3_eq_skeleton]
  unfold k0_part3_skel
  iintro ⟨#Hrec, HO, Hn4, Hn5, Hs4, Hz, HtS4, HtR4, HtS5, HtR5, Hu, ⟨%fo, Ho⟩, Hc0, Hl0, HaR0⟩ Hk
  unfold uKeep zhiAny
  icases Hz with ⟨%fz, Hz⟩
  simp only [Prog.bind_lift]
  iapply (wp_load 𝒱₀ (c : Thread nD τ) none Set.univ (m := uM) (r := rz1.toLoadRect) (Finset.subset_univ _)) $$ Hu
  iintro Hu
  iapply (wp_load 𝒱₀ (c : Thread nD τ) none Set.univ (m := zhiM) (r := rhz.toLoadRect) (Finset.subset_univ _)) $$ Hz
  iintro Hz
  iapply (wp_store 𝒱₀ (c : Thread nD τ) none Set.univ (m := zhiM) (r := rhz) (Finset.subset_univ _)) $$ Hz
  iintro Hz
  have hw : ((zhiM.access rhz : View sig .tc _ _ _).write (Elt F) fz (k0_pay2 (uM.view.readAt (Elt F) rz1.toLoadRect (xstg m ρ c))) Finset.univ) = zhi m ρ c :=
    Memref.write_access_unit_zero_univ (Elt F) cc0_scratch1 hz3 _ fz _
  have he : (((c : Thread nD τ).loc cc0_scratch1) ↦{fullShare} ((zhiM.access rhz : View sig .tc _ _ _).write (Elt F) fz (k0_pay2 (uM.view.readAt (Elt F) rz1.toLoadRect (xstg m ρ c))) Finset.univ) : sProp 𝕄)
      = srcPts m ρ 5 c := by rw [hw]; rfl
  ihave Hs5 := (Entails.of_eq he) $$ Hz
  iapply (send_step m ρ K c 4 [5] (cond17_iff c) _ (dev11_eq c) zloM h5M _ _ rfl rfl rfl fullShare (zlo m ρ c) (whole_set c cc0_scratch0 (zlo m ρ c))
    (whole_any (nb 4 c) cc0_scratch7) (fun fd => whole_landed (nb 4 c) cc0_scratch7 fd _ _ (landed_4 m ρ c))) $$ [HO Hn4 Hs4 HtS4 HtR4]
  · isplitr; · iexact Hrec
    isplitl [HO]; · iexact HO
    isplitl [Hn4]; · iexact Hn4
    isplitl [Hs4]; · iexact Hs4
    isplitl [HtS4]; · iexact HtS4
    iexact HtR4
  iintro ⟨HO, Hs4⟩
  iapply (send_step m ρ K c 5 [] (cond18_iff c) _ (dev12_eq c) zhiM h4M _ _ rfl rfl rfl fullShare (zhi m ρ c) (whole_set c cc0_scratch1 (zhi m ρ c))
    (whole_any (nb 5 c) cc0_scratch6) (fun fd => whole_landed (nb 5 c) cc0_scratch6 fd _ _ (landed_5 m ρ c))) $$ [HO Hn5 Hs5 HtS5 HtR5]
  · isplitr; · iexact Hrec
    isplitl [HO]; · iexact HO
    isplitl [Hn5]; · iexact Hn5
    isplitl [Hs5]; · iexact Hs5
    isplitl [HtS5]; · iexact HtS5
    iexact HtR5
  iintro ⟨HO, Hs5⟩
  have ho : oPts (F := F) c fo = (((c : Thread nD τ).loc cc0_stg1_0) ↦{fullShare} fo) := rfl
  ihave Ho := (Entails.of_eq ho) $$ Ho
  simp only [Prog.bind_lift]
  iapply (wp_load 𝒱₀ (c : Thread nD τ) none Set.univ (m := uM) (r := (Rect.unit (s := S32x32x32) ![0, 0, 0] S32x32x32.size inb_S32x32x32_S32x32x32_0_0_0).toLoadRect) (Finset.subset_univ _)) $$ Hu
  iintro Hu
  iapply (wp_load 𝒱₀ (c : Thread nD τ) none Set.univ (m := oM) (r := (Rect.unit (s := S32x32x32) ![0, 0, 0] S32x32x32.size inb_S32x32x32_S32x32x32_0_0_0).toLoadRect) (Finset.subset_univ _)) $$ Ho
  iintro Ho
  iapply (wp_store 𝒱₀ (c : Thread nD τ) none Set.univ (m := oM) (r := Rect.unit (s := S32x32x32) ![0, 0, 0] S32x32x32.size inb_S32x32x32_S32x32x32_0_0_0) (Finset.subset_univ _)) $$ Ho
  iintro Ho
  have hr : uM.view.readAt (Elt F) (Rect.unit (s := S32x32x32) ![0, 0, 0] S32x32x32.size inb_S32x32x32_S32x32x32_0_0_0).toLoadRect (xstg m ρ c) = xstg m ρ c :=
    Memref.readAt_unit_zero (Elt F) cc0_stg0_0 hz3 _ _
  have hw' : ((oM.access (Rect.unit (s := S32x32x32) ![0, 0, 0] S32x32x32.size inb_S32x32x32_S32x32x32_0_0_0) : View sig .tc _ _ _).write (Elt F) fo
      (k0_pay6 (uM.view.readAt (Elt F) (Rect.unit (s := S32x32x32) ![0, 0, 0] S32x32x32.size inb_S32x32x32_S32x32x32_0_0_0).toLoadRect (xstg m ρ c))) Finset.univ) = out0 m ρ c := by
    rw [hr]; exact Memref.write_access_unit_zero_univ (Elt F) cc0_stg1_0 hz3 _ fo _
  have ho' : (((c : Thread nD τ).loc cc0_stg1_0) ↦{fullShare} ((oM.access (Rect.unit (s := S32x32x32) ![0, 0, 0] S32x32x32.size inb_S32x32x32_S32x32x32_0_0_0) : View sig .tc _ _ _).write (Elt F) fo
      (k0_pay6 (uM.view.readAt (Elt F) (Rect.unit (s := S32x32x32) ![0, 0, 0] S32x32x32.size inb_S32x32x32_S32x32x32_0_0_0).toLoadRect (xstg m ρ c))) Finset.univ) : sProp 𝕄)
      = oPts c (out0 m ρ c) := by rw [hw']; rfl
  ihave Ho := (Entails.of_eq ho') $$ Ho
  iapply (recv_step m ρ K c 0 (flag_iff 0 c) _ (fun _ _ => rfl) rx0 h0M rhx (landed m ρ 0 c) rfl k0_pay7 (out0 m ρ c)) $$ [HO Hc0 Hl0 HaR0 Ho]
  · isplitr; · iexact Hrec
    isplitl [HO]; · iexact HO
    isplitl [Hc0]; · iexact Hc0
    isplitl [Hl0]; · iexact Hl0
    isplitl [HaR0]; · iexact HaR0
    iexact Ho
  iintro ⟨HO, Hb0, Hz0, Ho⟩
  iapply ret_intro
  iapply Hk
  isplitl [HO]; · iexact HO
  isplitl [Hs4]; · iexact Hs4
  isplitl [Hs5]; · iexact Hs5
  isplitl [Hu]; · iexact Hu
  isplitl [Hb0]; · iexact Hb0
  isplitl [Hz0]; · iexact Hz0
  iexact Ho

set_option maxHeartbeats 2000000 in
/-- The fourth part: the other five halos, the faces at the mesh's ends, and the first transfer's source back. -/
theorem part4_spec (c : Dev nD) (Q : _ → sProp 𝕄) :
    iprop(records m ρ K ∗ owesE c 0 ∗ (cred (rc 1 c) ∗ hLeft 1 c ∗ atPos ER (recvCell 1 c) 0 ∅ 0) ∗ (cred (rc 2 c) ∗ hLeft 2 c ∗ atPos ER (recvCell 2 c) 0 ∅ 0) ∗ (cred (rc 3 c) ∗ hLeft 3 c ∗ atPos ER (recvCell 3 c) 0 ∅ 0) ∗ (cred (rc 4 c) ∗ hLeft 4 c ∗ atPos ER (recvCell 4 c) 0 ∅ 0) ∗ (cred (rc 5 c) ∗ hLeft 5 c ∗ atPos ER (recvCell 5 c) 0 ∅ 0) ∗ oPts c (addF m ρ 0 c (out0 m ρ c)) ∗ sent m ρ 0 c ∗ atPos ER (sendCell 0 c) 0 ∅ 0)
      ⊢ iprop(((owesE c 0 ∗ (hAny 1 c ∗ semVal (recvCell 1 c) 0) ∗ (hAny 2 c ∗ semVal (recvCell 2 c) 0) ∗ (hAny 3 c ∗ semVal (recvCell 3 c) 0) ∗ (hAny 4 c ∗ semVal (recvCell 4 c) 0) ∗ (hAny 5 c ∗ semVal (recvCell 5 c) 0) ∗ oPts c (outZ m ρ c) ∗ srcPts m ρ 0 c ∗ semVal (sendCell 0 c) 0)
          -∗ Q ⟨Scalar.extui (flag 1 c), 0#32⟩)
        -∗ wp frame (wpE (defs₀ (F := F)) 𝒱₀ (c : Thread nD τ) none) Set.univ
          (k0_part4 uM (Memref.isWhole_whole _) oM (Memref.isWhole_whole _) zloM (Memref.isWhole_whole _) zhiM (Memref.isWhole_whole _)
            h0M (Memref.isWhole_whole _) h1M (Memref.isWhole_whole _) h2M (Memref.isWhole_whole _) h3M (Memref.isWhole_whole _)
            h4M (Memref.isWhole_whole _) h5M (Memref.isWhole_whole _) cc0_scratch8 cc0_scratch9 (cx c) (cy c) (cz c)
            (flag 0 c) (flag 1 c) (flag 2 c) (flag 3 c) (flag 4 c) (flag 5 c) k0_pay3 k0_pay4 k0_pay5 (Scalar.extui (flag 1 c)) 0#32) Q) := by
  rw [k0_part4_eq_skeleton]
  unfold k0_part4_skel
  iintro ⟨#Hrec, HO, ⟨Hc1, Hl1, HaR1⟩, ⟨Hc2, Hl2, HaR2⟩, ⟨Hc3, Hl3, HaR3⟩, ⟨Hc4, Hl4, HaR4⟩, ⟨Hc5, Hl5, HaR5⟩, Ho, Hs0, HaS0⟩ Hk
  iapply (recv_step m ρ K c 1 (flag_iff 1 c) _ (fun _ _ => rfl) rx1 h1M rhx (landed m ρ 1 c) rfl k0_pay8 (addF m ρ 0 c (out0 m ρ c))) $$ [HO Hc1 Hl1 HaR1 Ho]
  · isplitr; · iexact Hrec
    isplitl [HO]; · iexact HO
    isplitl [Hc1]; · iexact Hc1
    isplitl [Hl1]; · iexact Hl1
    isplitl [HaR1]; · iexact HaR1
    iexact Ho
  iintro ⟨HO, Hb1, Hz1, Ho⟩
  iapply (recv_step m ρ K c 2 (flag_iff 2 c) _ (fun _ _ => rfl) ry0 h2M rhy (landed m ρ 2 c) rfl k0_pay9 (addF m ρ 1 c (addF m ρ 0 c (out0 m ρ c)))) $$ [HO Hc2 Hl2 HaR2 Ho]
  · isplitr; · iexact Hrec
    isplitl [HO]; · iexact HO
    isplitl [Hc2]; · iexact Hc2
    isplitl [Hl2]; · iexact Hl2
    isplitl [HaR2]; · iexact HaR2
    iexact Ho
  iintro ⟨HO, Hb2, Hz2, Ho⟩
  iapply (recv_step m ρ K c 3 (flag_iff 3 c) _ (fun _ _ => rfl) ry1 h3M rhy (landed m ρ 3 c) rfl k0_pay10 (addF m ρ 2 c (addF m ρ 1 c (addF m ρ 0 c (out0 m ρ c))))) $$ [HO Hc3 Hl3 HaR3 Ho]
  · isplitr; · iexact Hrec
    isplitl [HO]; · iexact HO
    isplitl [Hc3]; · iexact Hc3
    isplitl [Hl3]; · iexact Hl3
    isplitl [HaR3]; · iexact HaR3
    iexact Ho
  iintro ⟨HO, Hb3, Hz3, Ho⟩
  iapply (recv_step m ρ K c 4 (flag_iff 4 c) _ (fun _ _ => rfl) rz0 h4M rhz (landed m ρ 4 c) rfl k0_pay11 (addF m ρ 3 c (addF m ρ 2 c (addF m ρ 1 c (addF m ρ 0 c (out0 m ρ c)))))) $$ [HO Hc4 Hl4 HaR4 Ho]
  · isplitr; · iexact Hrec
    isplitl [HO]; · iexact HO
    isplitl [Hc4]; · iexact Hc4
    isplitl [Hl4]; · iexact Hl4
    isplitl [HaR4]; · iexact HaR4
    iexact Ho
  iintro ⟨HO, Hb4, Hz4, Ho⟩
  iapply (recv_step m ρ K c 5 (flag_iff 5 c) _ (fun _ _ => rfl) rz1 h5M rhz (landed m ρ 5 c) rfl k0_pay12 (addF m ρ 4 c (addF m ρ 3 c (addF m ρ 2 c (addF m ρ 1 c (addF m ρ 0 c (out0 m ρ c))))))) $$ [HO Hc5 Hl5 HaR5 Ho]
  · isplitr; · iexact Hrec
    isplitl [HO]; · iexact HO
    isplitl [Hc5]; · iexact Hc5
    isplitl [Hl5]; · iexact Hl5
    isplitl [HaR5]; · iexact HaR5
    iexact Ho
  iintro ⟨HO, Hb5, Hz5, Ho⟩
  iapply (zero_step c 0 (flag_not_iff 0 c) rx0 k0_pay3 (outA m ρ c)) $$ [Ho]
  · iexact Ho
  iintro Ho
  iapply (zero_step c 1 (flag_not_iff 1 c) rx1 k0_pay3 (zeroF 0 c (outA m ρ c))) $$ [Ho]
  · iexact Ho
  iintro Ho
  iapply (zero_step c 2 (flag_not_iff 2 c) ry0 k0_pay4 (zeroF 1 c (zeroF 0 c (outA m ρ c)))) $$ [Ho]
  · iexact Ho
  iintro Ho
  iapply (zero_step c 3 (flag_not_iff 3 c) ry1 k0_pay4 (zeroF 2 c (zeroF 1 c (zeroF 0 c (outA m ρ c))))) $$ [Ho]
  · iexact Ho
  iintro Ho
  iapply (zero_step c 4 (flag_not_iff 4 c) rz0 k0_pay5 (zeroF 3 c (zeroF 2 c (zeroF 1 c (zeroF 0 c (outA m ρ c)))))) $$ [Ho]
  · iexact Ho
  iintro Ho
  iapply (zero_step c 5 (flag_not_iff 5 c) rz1 k0_pay5 (zeroF 4 c (zeroF 3 c (zeroF 2 c (zeroF 1 c (zeroF 0 c (outA m ρ c))))))) $$ [Ho]
  · iexact Ho
  iintro Ho
  iapply (sent_step m ρ K c 0 (flag_iff 0 c) _ (fun _ _ => rfl)) $$ [HO Hs0 HaS0]
  · isplitr; · iexact Hrec
    isplitl [HO]; · iexact HO
    isplitl [Hs0]; · iexact Hs0
    iexact HaS0
  iintro ⟨HO, Hs0, HzS0⟩
  iapply ret_intro
  iapply Hk
  isplitl [HO]; · iexact HO
  isplitl [Hb1 Hz1]
  · isplitl [Hb1]; · iexact Hb1
    iexact Hz1
  isplitl [Hb2 Hz2]
  · isplitl [Hb2]; · iexact Hb2
    iexact Hz2
  isplitl [Hb3 Hz3]
  · isplitl [Hb3]; · iexact Hb3
    iexact Hz3
  isplitl [Hb4 Hz4]
  · isplitl [Hb4]; · iexact Hb4
    iexact Hz4
  isplitl [Hb5 Hz5]
  · isplitl [Hb5]; · iexact Hb5
    iexact Hz5
  isplitl [Ho]; · iexact Ho
  isplitl [Hs0]; · iexact Hs0
  iexact HzS0

end Cert.Halo

end
-- ==== Proof.Body.lean ====
/-
The kernel's body as one run, for every device at once.
-/
module

public import proofs.«01_k».proof.Proof.Parts

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 13 → ℕ)

/-! ## The argument's block in shares -/

/-- The staging buffer of the argument, whole. -/
def uPts (c : Dev nD) : sProp 𝕄 := ((c : Thread nD τ).loc cc0_stg0_0) ↦{fullShare} xstg m ρ c

/-- What of the block neither the kernel's loads nor the transfers hold: for each transfer, its share outside its face. -/
def uRest (c : Dev nD) : sProp 𝕄 :=
  iprop((((c : Thread nD τ).loc cc0_stg0_0) ↦[Finset.univ \ xloM.view.set]{qS 0} xstg m ρ c)
    ∗ (((c : Thread nD τ).loc cc0_stg0_0) ↦[Finset.univ \ xhiM.view.set]{qS 1} xstg m ρ c)
    ∗ (((c : Thread nD τ).loc cc0_stg0_0) ↦[Finset.univ \ yloM.view.set]{qS 2} xstg m ρ c)
    ∗ (((c : Thread nD τ).loc cc0_stg0_0) ↦[Finset.univ \ yhiM.view.set]{qS 3} xstg m ρ c))

theorem share_halves (ℓ : Loc nD τ sig) (q : PosShare TreeShare) (f : Buf (Elt F) ℓ) :
    (ℓ ↦{q} f : sProp 𝕄) ⊣⊢ iprop((ℓ ↦{q.left} f) ∗ (ℓ ↦{q.right} f)) := pointsTo_share (PosShare.mem_left_op_right q)

theorem off_face (ℓ : Loc nD τ sig) (q : PosShare TreeShare) (f : Buf (Elt F) ℓ) (S : Finset (Idx ℓ)) :
    (ℓ ↦{q} f : sProp 𝕄) ⊣⊢ iprop((ℓ ↦[S]{q} f) ∗ (ℓ ↦[Finset.univ \ S]{q} f)) := pointsTo_split_subset (Finset.subset_univ S)

theorem src_0 (c : Dev nD) : srcPts m ρ 0 c = (((c : Thread nD τ).loc cc0_stg0_0) ↦[xloM.view.set]{fullShare.right.left} xstg m ρ c : sProp 𝕄) := rfl
theorem src_1 (c : Dev nD) : srcPts m ρ 1 c = (((c : Thread nD τ).loc cc0_stg0_0) ↦[xhiM.view.set]{fullShare.right.right.left} xstg m ρ c : sProp 𝕄) := rfl
theorem src_2 (c : Dev nD) : srcPts m ρ 2 c = (((c : Thread nD τ).loc cc0_stg0_0) ↦[yloM.view.set]{fullShare.right.right.right.left} xstg m ρ c : sProp 𝕄) := rfl
theorem src_3 (c : Dev nD) : srcPts m ρ 3 c = (((c : Thread nD τ).loc cc0_stg0_0) ↦[yhiM.view.set]{fullShare.right.right.right.right} xstg m ρ c : sProp 𝕄) := rfl
theorem src_4 (c : Dev nD) : srcPts m ρ 4 c = (((c : Thread nD τ).loc cc0_scratch0) ↦{fullShare} zlo m ρ c : sProp 𝕄) := rfl
theorem src_5 (c : Dev nD) : srcPts m ρ 5 c = (((c : Thread nD τ).loc cc0_scratch1) ↦{fullShare} zhi m ρ c : sProp 𝕄) := rfl

/-- The block lent out: half of it to the loads, four shares of its faces to the transfers. -/
theorem u_split (c : Dev nD) :
    uPts m ρ c ⊢ iprop(uKeep m ρ c ∗ srcPts m ρ 0 c ∗ srcPts m ρ 1 c ∗ srcPts m ρ 2 c ∗ srcPts m ρ 3 c ∗ uRest m ρ c) := by
  unfold uPts uKeep uRest
  rw [src_0, src_1, src_2, src_3]
  iintro H
  ihave H1 := (share_halves _ _ _).1 $$ H
  icases H1 with ⟨Hk, H⟩
  ihave H1 := (share_halves _ _ _).1 $$ H
  icases H1 with ⟨H0, H⟩
  ihave H1 := (share_halves _ _ _).1 $$ H
  icases H1 with ⟨H1, H⟩
  ihave H2 := (share_halves _ _ _).1 $$ H
  icases H2 with ⟨H2, H3⟩
  ihave G0 := (off_face _ _ _ xloM.view.set).1 $$ H0
  icases G0 with ⟨H0, G0⟩
  ihave G1 := (off_face _ _ _ xhiM.view.set).1 $$ H1
  icases G1 with ⟨H1, G1⟩
  ihave G2 := (off_face _ _ _ yloM.view.set).1 $$ H2
  icases G2 with ⟨H2, G2⟩
  ihave G3 := (off_face _ _ _ yhiM.view.set).1 $$ H3
  icases G3 with ⟨H3, G3⟩
  isplitl [Hk]; · iexact Hk
  isplitl [H0]; · iexact H0
  isplitl [H1]; · iexact H1
  isplitl [H2]; · iexact H2
  isplitl [H3]; · iexact H3
  isplitl [G0]; · iexact G0
  isplitl [G1]; · iexact G1
  isplitl [G2]; · iexact G2
  iexact G3

/-- And given back. -/
theorem u_join (c : Dev nD) :
    iprop(uKeep m ρ c ∗ srcPts m ρ 0 c ∗ srcPts m ρ 1 c ∗ srcPts m ρ 2 c ∗ srcPts m ρ 3 c ∗ uRest m ρ c) ⊢ uPts m ρ c := by
  unfold uPts uKeep uRest
  rw [src_0, src_1, src_2, src_3]
  iintro ⟨Hk, H0, H1, H2, H3, G0, G1, G2, G3⟩
  iapply (share_halves _ _ _).2
  isplitl [Hk]; · iexact Hk
  iapply (share_halves _ _ _).2
  isplitl [H0 G0]
  · iapply (off_face _ _ _ xloM.view.set).2
    isplitl [H0]; · iexact H0
    iexact G0
  iapply (share_halves _ _ _).2
  isplitl [H1 G1]
  · iapply (off_face _ _ _ xhiM.view.set).2
    isplitl [H1]; · iexact H1
    iexact G1
  iapply (share_halves _ _ _).2
  isplitl [H2 G2]
  · iapply (off_face _ _ _ yloM.view.set).2
    isplitl [H2]; · iexact H2
    iexact G2
  · iapply (off_face _ _ _ yhiM.view.set).2
    isplitl [H3]; · iexact H3
    iexact G3

/-! ## The body -/

/-- What of the ghost state device `c` holds for direction `d`: its position on the two cells, and the three tokens it
    pays with. -/
def perD (d : Dir) (c : Dev nD) : sProp 𝕄 :=
  iprop(atPos ER (sendCell d c) 0 ∅ 0 ∗ atPos ER (recvCell d c) 0 ∅ 0 ∗ tokB d c ∗ tokS d c ∗ tokR d c)

/-- A program's first step run, the rest of it is its continuation. -/
theorem bind_intro (c : Dev nD) {α β : Type} (p : Prog (TpuEff nD τ sig (Elt F) Λ₀ .tc) α) (k : α → Prog (TpuEff nD τ sig (Elt F) Λ₀ .tc) β) (Q : β → sProp 𝕄) :
    wp frame (wpE (defs₀ (F := F)) 𝒱₀ (c : Thread nD τ) none) Set.univ p (fun a => wp frame (wpE (defs₀ (F := F)) 𝒱₀ (c : Thread nD τ) none) Set.univ (k a) Q)
      ⊢ wp frame (wpE (defs₀ (F := F)) 𝒱₀ (c : Thread nD τ) none) Set.univ (p >>= k) Q := by
  rw [wp_bind]

/-- What the body starts from. -/
def pre (c : Dev nD) : sProp 𝕄 :=
  iprop(atPos ER (barCell c) 0 ∅ 0 ∗ cred (tallyAt (barCell c) () (cnt c all)) ∗ (bigSep Finset.univ fun d : Dir => perD d c)
    ∗ (bigSep Finset.univ fun d : Dir => cred (rc d c)) ∗ zloAny c ∗ zhiAny c ∗ (bigSep Finset.univ fun d : Dir => hAny d c))
/-- What it ends with: every counter of the exchange at zero, the buffers back. -/
def post (c : Dev nD) : sProp 𝕄 :=
  iprop(semVal (barCell c) 0 ∗ (bigSep Finset.univ fun d : Dir => iprop(semVal (sendCell d c) 0 ∗ semVal (recvCell d c) 0))
    ∗ zloAny c ∗ zhiAny c ∗ (bigSep Finset.univ fun d : Dir => hAny d c))

set_option maxHeartbeats 4000000 in
/-- The body of device `c`: from the exchange's start, its block and the result's buffer at any contents, to the
    exchange's end, its block back, and the result. -/
theorem body_run (c : Dev nD) (Q : PUnit → sProp 𝕄) :
    iprop(records m ρ K ∗ levAts L lv ∗ owesE c (O₀ c) ∗ pre c ∗ uPts m ρ c ∗ (∃ f, oPts c f))
      ⊢ iprop(((owesE c 0 ∗ post c ∗ uPts m ρ c ∗ oPts c (outZ m ρ c)) -∗ Q ⟨⟩)
        -∗ wp frame (wpE (defs₀ (F := F)) 𝒱₀ (c : Thread nD τ) none) Set.univ
          (cc0_body uM (Memref.isWhole_whole _) oM (Memref.isWhole_whole _) zloM (Memref.isWhole_whole _) zhiM (Memref.isWhole_whole _)
            h0M (Memref.isWhole_whole _) h1M (Memref.isWhole_whole _) h2M (Memref.isWhole_whole _) h3M (Memref.isWhole_whole _)
            h4M (Memref.isWhole_whole _) h5M (Memref.isWhole_whole _) cc0_scratch8 cc0_scratch9) Q) := by
  rw [cc0_body_eq_skeleton]
  unfold cc0_body_skel pre post O₀
  rw [six (fun d => perD d c), six (fun d => cred (rc d c)), six (fun d => hAny d c), six (fun d => iprop(semVal (sendCell d c) 0 ∗ semVal (recvCell d c) 0))]
  unfold perD
  iintro ⟨#Hrec, #Hlev, HO, ⟨HaB, HcB, ⟨⟨HaS0, HaR0, Ht0, HtS0, HtR0⟩, ⟨HaS1, HaR1, Ht1, HtS1, HtR1⟩, ⟨HaS2, HaR2, Ht2, HtS2, HtR2⟩, ⟨HaS3, HaR3, Ht3, HtS3, HtR3⟩, ⟨HaS4, HaR4, Ht4, HtS4, HtR4⟩, ⟨HaS5, HaR5, Ht5, HtS5, HtR5⟩⟩, ⟨Hc0, Hc1, Hc2, Hc3, Hc4, Hc5⟩, Hz0, Hz1, ⟨Hb0, Hb1, Hb2, Hb3, Hb4, Hb5⟩⟩, Hu, Ho⟩ Hk
  ihave Hu' := (u_split m ρ c) $$ Hu
  icases Hu' with ⟨Hu, Hs0, Hs1, Hs2, Hs3, Hrest⟩
  iapply (bind_intro c)
  iapply (part1_spec m ρ K c) $$ [HO Ht0 Hb0 Ht1 Hb1 Ht2 Hb2 Ht3 Hb3]
  · isplitr; · iexact Hrec
    isplitl [HO]; · iexact HO
    isplitl [Ht0 Hb0]
    · isplitl [Ht0]; · iexact Ht0
      iexact Hb0
    isplitl [Ht1 Hb1]
    · isplitl [Ht1]; · iexact Ht1
      iexact Hb1
    isplitl [Ht2 Hb2]
    · isplitl [Ht2]; · iexact Ht2
      iexact Hb2
    isplitl [Ht3]; · iexact Ht3
    iexact Hb3
  iintro ⟨HO, Hl0, Hl1, Hl2, Hl3⟩
  iapply (bind_intro c)
  iapply (part2_spec m ρ K c) $$ [HO Ht4 Hb4 Ht5 Hb5 HaB HcB Hs0 HtS0 HtR0 Hs1 HtS1 HtR1 Hs2 HtS2 HtR2 Hs3 HtS3 HtR3 Hu Hz0]
  · isplitr; · iexact Hrec
    isplitr; · iexact Hlev
    isplitl [HO]; · iexact HO
    isplitl [Ht4 Hb4]
    · isplitl [Ht4]; · iexact Ht4
      iexact Hb4
    isplitl [Ht5 Hb5]
    · isplitl [Ht5]; · iexact Ht5
      iexact Hb5
    isplitl [HaB HcB]
    · iapply (waitInv_intro c)
      isplitl [HcB]; · iexact HcB
      iexact HaB
    isplitl [Hs0 HtS0 HtR0]
    · isplitl [Hs0]; · iexact Hs0
      isplitl [HtS0]; · iexact HtS0
      iexact HtR0
    isplitl [Hs1 HtS1 HtR1]
    · isplitl [Hs1]; · iexact Hs1
      isplitl [HtS1]; · iexact HtS1
      iexact HtR1
    isplitl [Hs2 HtS2 HtR2]
    · isplitl [Hs2]; · iexact Hs2
      isplitl [HtS2]; · iexact HtS2
      iexact HtR2
    isplitl [Hs3 HtS3 HtR3]
    · isplitl [Hs3]; · iexact Hs3
      isplitl [HtS3]; · iexact HtS3
      iexact HtR3
    isplitl [Hu]; · iexact Hu
    iexact Hz0
  iintro ⟨HO, Hl4, Hl5, Hbar, Hn4, Hn5, Hs0, Hs1, Hs2, Hs3, Hu, Hs4⟩
  iapply (bind_intro c)
  iapply (part3_spec m ρ K c) $$ [HO Hn4 Hn5 Hs4 Hz1 HtS4 HtR4 HtS5 HtR5 Hu Ho Hc0 Hl0 HaR0]
  · isplitr; · iexact Hrec
    isplitl [HO]; · iexact HO
    isplitl [Hn4]; · iexact Hn4
    isplitl [Hn5]; · iexact Hn5
    isplitl [Hs4]; · iexact Hs4
    isplitl [Hz1]; · iexact Hz1
    isplitl [HtS4]; · iexact HtS4
    isplitl [HtR4]; · iexact HtR4
    isplitl [HtS5]; · iexact HtS5
    isplitl [HtR5]; · iexact HtR5
    isplitl [Hu]; · iexact Hu
    isplitl [Ho]; · iexact Ho
    isplitl [Hc0]; · iexact Hc0
    isplitl [Hl0]; · iexact Hl0
    iexact HaR0
  iintro ⟨HO, Hs4, Hs5, Hu, Hb0, Hz0, Ho⟩
  iapply (bind_intro c)
  iapply (part4_spec m ρ K c) $$ [HO Hc1 Hl1 HaR1 Hc2 Hl2 HaR2 Hc3 Hl3 HaR3 Hc4 Hl4 HaR4 Hc5 Hl5 HaR5 Ho Hs0 HaS0]
  · isplitr; · iexact Hrec
    isplitl [HO]; · iexact HO
    isplitl [Hc1 Hl1 HaR1]
    · isplitl [Hc1]; · iexact Hc1
      isplitl [Hl1]; · iexact Hl1
      iexact HaR1
    isplitl [Hc2 Hl2 HaR2]
    · isplitl [Hc2]; · iexact Hc2
      isplitl [Hl2]; · iexact Hl2
      iexact HaR2
    isplitl [Hc3 Hl3 HaR3]
    · isplitl [Hc3]; · iexact Hc3
      isplitl [Hl3]; · iexact Hl3
      iexact HaR3
    isplitl [Hc4 Hl4 HaR4]
    · isplitl [Hc4]; · iexact Hc4
      isplitl [Hl4]; · iexact Hl4
      iexact HaR4
    isplitl [Hc5 Hl5 HaR5]
    · isplitl [Hc5]; · iexact Hc5
      isplitl [Hl5]; · iexact Hl5
      iexact HaR5
    isplitl [Ho]; · iexact Ho
    isplitl [Hs0]; · iexact Hs0
    iexact HaS0
  iintro ⟨HO, ⟨Hb1, Hz1⟩, ⟨Hb2, Hz2⟩, ⟨Hb3, Hz3⟩, ⟨Hb4, Hz4⟩, ⟨Hb5, Hz5⟩, Ho, Hs0, HzS0⟩
  iapply (sent_step m ρ K c 1 (flag_iff 1 c) _ (fun _ _ => rfl)) $$ [HO Hs1 HaS1]
  · isplitr; · iexact Hrec
    isplitl [HO]; · iexact HO
    isplitl [Hs1]; · iexact Hs1
    iexact HaS1
  iintro ⟨HO, Hs1, HzS1⟩
  iapply (sent_step m ρ K c 2 (flag_iff 2 c) _ (fun _ _ => rfl)) $$ [HO Hs2 HaS2]
  · isplitr; · iexact Hrec
    isplitl [HO]; · iexact HO
    isplitl [Hs2]; · iexact Hs2
    iexact HaS2
  iintro ⟨HO, Hs2, HzS2⟩
  iapply (sent_step m ρ K c 3 (flag_iff 3 c) _ (fun _ _ => rfl)) $$ [HO Hs3 HaS3]
  · isplitr; · iexact Hrec
    isplitl [HO]; · iexact HO
    isplitl [Hs3]; · iexact Hs3
    iexact HaS3
  iintro ⟨HO, Hs3, HzS3⟩
  iapply (sent_step m ρ K c 4 (flag_iff 4 c) _ (fun _ _ => rfl)) $$ [HO Hs4 HaS4]
  · isplitr; · iexact Hrec
    isplitl [HO]; · iexact HO
    isplitl [Hs4]; · iexact Hs4
    iexact HaS4
  iintro ⟨HO, Hs4, HzS4⟩
  iapply (sent_step m ρ K c 5 (flag_iff 5 c) _ (fun _ _ => rfl)) $$ [HO Hs5 HaS5]
  · isplitr; · iexact Hrec
    isplitl [HO]; · iexact HO
    isplitl [Hs5]; · iexact Hs5
    iexact HaS5
  iintro ⟨HO, Hs5, HzS5⟩
  iapply ret_intro
  iapply Hk
  isplitl [HO]; · iexact HO
  isplitl [Hbar HzS0 Hz0 HzS1 Hz1 HzS2 Hz2 HzS3 Hz3 HzS4 Hz4 HzS5 Hz5 Hs4 Hs5 Hb0 Hb1 Hb2 Hb3 Hb4 Hb5]
  · isplitl [Hbar]; · iexact Hbar
    isplitl [HzS0 Hz0 HzS1 Hz1 HzS2 Hz2 HzS3 Hz3 HzS4 Hz4 HzS5 Hz5]
    · isplitl [HzS0 Hz0]
      · isplitl [HzS0]; · iexact HzS0
        iexact Hz0
      isplitl [HzS1 Hz1]
      · isplitl [HzS1]; · iexact HzS1
        iexact Hz1
      isplitl [HzS2 Hz2]
      · isplitl [HzS2]; · iexact HzS2
        iexact Hz2
      isplitl [HzS3 Hz3]
      · isplitl [HzS3]; · iexact HzS3
        iexact Hz3
      isplitl [HzS4 Hz4]
      · isplitl [HzS4]; · iexact HzS4
        iexact Hz4
      isplitl [HzS5]; · iexact HzS5
      iexact Hz5
    isplitl [Hs4]; · unfold zloAny; iexists (zlo m ρ c); rw [← src_4]; iexact Hs4
    isplitl [Hs5]; · unfold zhiAny; iexists (zhi m ρ c); rw [← src_5]; iexact Hs5
    isplitl [Hb0]; · iexact Hb0
    isplitl [Hb1]; · iexact Hb1
    isplitl [Hb2]; · iexact Hb2
    isplitl [Hb3]; · iexact Hb3
    isplitl [Hb4]; · iexact Hb4
    iexact Hb5
  isplitl [Hu Hs0 Hs1 Hs2 Hs3 Hrest]
  · iapply (u_join m ρ c)
    isplitl [Hu]; · iexact Hu
    isplitl [Hs0]; · iexact Hs0
    isplitl [Hs1]; · iexact Hs1
    isplitl [Hs2]; · iexact Hs2
    isplitl [Hs3]; · iexact Hs3
    iexact Hrest
  iexact Ho

end Cert.Halo

end
-- ==== Proof.Obligation.lean ====
/-
The run's proof data: what each device's arrays and staging buffers hold around the one grid point, and that the body
meets it.
-/
module

public import proofs.«01_k».proof.Proof.Body
public import proofs.«01_k».proof.Proof.Gen.KernelIdeal.Points

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
/-- The one grid point. -/
def t₀ : Fin cfg0.N := ⟨0, by rw [cfg0_N]; decide⟩
theorem fin_N (t : Fin cfg0.N) : t = t₀ := by
  apply Fin.ext; have h := lt_of_lt_of_eq t.isLt cfg0_N; show t.val = 0; omega

/-- The exchange's ghost state of device `c`, at the names `K`: the cells' records, its positions and its tokens. -/
def ghost (K : Dev nD × Fin 13 → ℕ) (c : Dev nD) : sProp 𝕄 :=
  iprop(records m ρ K ∗ atPos ER (barCell c) 0 ∅ 0 ∗ bigSep Finset.univ fun d : Dir => perD d c)

/-- The scratch buffers of device `c`, at any contents. -/
def scratch (c : Dev nD) : sProp 𝕄 := iprop(zloAny c ∗ zhiAny c ∗ bigSep Finset.univ fun d : Dir => hAny d c)

/-- What device `c` starts from, besides its buffers. -/
def start (c : Dev nD) : sProp 𝕄 :=
  iprop((∃ K, ghost m ρ K c) ∗ cred (tallyAt (barCell c) () (cnt c all)) ∗ (bigSep Finset.univ fun d : Dir => cred (rc d c)) ∗ levAts L lv)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outZ m ρ c
  Φ t := match t with
    | ⟨0, _⟩ => iprop(start m ρ c ∗ scratch c)
    | ⟨_ + 1, _⟩ => post c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Device `c`'s staging buffer `b`, holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop((start m ρ c ∗ scratch c) ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
def bodyPost (c : Dev nD) : sProp 𝕄 :=
  iprop(post c ∗ (dats m ρ 0 c).owesAt () t₀.succ ∗ stg c cc0_stg0_0 (xstg m ρ c) ∗ stg c cc0_stg1_0 (outZ m ρ c))

set_option maxRecDepth 4000 in
/-- The body meets the proof data on every device. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ (c : Thread nD τ) none) Set.univ
    (cc0_body uM (Memref.isWhole_whole _) oM (Memref.isWhole_whole _) zloM (Memref.isWhole_whole _) zhiM (Memref.isWhole_whole _)
      h0M (Memref.isWhole_whole _) h1M (Memref.isWhole_whole _) h2M (Memref.isWhole_whole _) h3M (Memref.isWhole_whole _)
      h4M (Memref.isWhole_whole _) h5M (Memref.isWhole_whole _) cc0_scratch8 cc0_scratch9) (fun _ => bodyPost m ρ c)
  unfold bodyPre start scratch ghost Dat.owesAt Pipeline.owesWithin
  iintro ⟨⟨⟨⟨%K, #Hrec, Hat, Hper⟩, HcB, HcR, #Hlev⟩, Hz0, Hz1, Hb⟩, ⟨%W, %hW, HO⟩, ⟨%d0, %g0, %hg0, Hx⟩, ⟨%d1, %g1, %hg1, Hout⟩⟩
  have hx : g0 = xstg m ρ c := by rw [hg0]; unfold Dat.before; rw [if_pos (fetch0_0 t₀)]; rfl
  subst hx
  rw [show (dats m ρ 0 c).owed t₀.castSucc = O₀ c from rfl]
  iapply (body_run m ρ K c) $$ [HO Hat Hper HcB HcR Hz0 Hz1 Hb Hx Hout]
  · isplitr; · iexact Hrec
    isplitr; · iexact Hlev
    isplitl [HO]; · unfold owesE; iexists W; iexact HO
    isplitl [Hat Hper HcB HcR Hz0 Hz1 Hb]
    · unfold pre
      isplitl [Hat]; · iexact Hat
      isplitl [HcB]; · iexact HcB
      isplitl [Hper]; · iexact Hper
      isplitl [HcR]; · iexact HcR
      isplitl [Hz0]; · iexact Hz0
      isplitl [Hz1]; · iexact Hz1
      iexact Hb
    isplitl [Hx]; · unfold uPts; iexact Hx
    iexists g1; unfold oPts; iexact Hout
  iintro ⟨HO, Hpost, Hx, Hout⟩
  unfold bodyPost Dat.owesAt Pipeline.owesWithin owesE uPts oPts
  rw [show (dats m ρ 0 c).owed t₀.succ = 0 from rfl]
  icases HO with ⟨%W', HO⟩
  isplitl [Hpost]; · iexact Hpost
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

end Cert.Halo

end
-- ==== Proof.Deal.lean ====
/-
The launch's ghost state: the cells and the tokens minted, dealt to the devices that pay with them, and the credit each
device's waits take.
-/
module

public import proofs.«01_k».proof.Proof.Obligation

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The kernel's own twelve semaphores. -/
def osem (k : Fin 12) : SemLoc sig := .dma ⟨k.val + 2, by have := k.isLt; show _ < 14; omega⟩

theorem ownSemFacts : Pipeline.OwnSemFacts cfg0.spec osem := by decide

theorem kcell_injective : Function.Injective (kcell : Dev nD × Fin 13 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- The exchange's cells: thirteen on each device. -/
def exCells : Finset (GSem nD τ sig) := Finset.univ.map ⟨kcell, kcell_injective⟩

/-- The cell a token is of: the barrier's, a transfer out's or a transfer in's, of the direction. -/
def tokSlot : Fin 3 × Dir → Fin 13 × Dir
  | (0, d) => (0, d) | (1, d) => (sSlot d, 0) | (2, d) => (rSlot d, 0)
theorem tokSlot_injective : Function.Injective tokSlot := by decide
/-- A token by its device, its kind and its direction. -/
def tokOf (x : Dev nD × (Fin 3 × Dir)) : GSem nD τ sig × ℕ × Dir := (kcell (x.1, (tokSlot x.2).1), 0, (tokSlot x.2).2)
theorem tokOf_injective : Function.Injective tokOf := by
  rintro ⟨c, x⟩ ⟨c', x'⟩ h
  have h1 := kcell_injective (congrArg (fun t : GSem nD τ sig × ℕ × Dir => t.1) h)
  have h2 : (tokSlot x).2 = (tokSlot x').2 := congrArg (fun t : GSem nD τ sig × ℕ × Dir => t.2.2) h
  have h3 : (tokSlot x).1 = (tokSlot x').1 := congrArg Prod.snd h1
  rw [tokSlot_injective (Prod.ext h3 h2), show c = c' from congrArg Prod.fst h1]
def exToks : Finset (GSem nD τ sig × ℕ × Dir) := Finset.univ.map ⟨tokOf, tokOf_injective⟩

/-- The launch's ghost element: the pipeline's and the exchange's. -/
def u₀ : UU :=
  (initOf (Pipeline.cells cfgs cellOf_inj) (Pipeline.launchToks cfgs cellOf_inj), initOf exCells exToks)

/-- The tokens of device `c`'s own cells. -/
def toks (c : Dev nD) : sProp 𝕄 :=
  bigSep Finset.univ fun x : Fin 3 × Dir => dutyTok ER (kcell (c, (tokSlot x).1)) 0 (tokSlot x).2

/-- The launch element's share of device `c`. -/
def G (c : Dev nD) : sProp 𝕄 :=
  iprop((bigSep Finset.univ fun k : Fin 13 => roundState ER (rd m ρ) (kcell (c, k)) 0)
    ∗ (bigSep Finset.univ fun k : Fin 13 => iprop(atPos ER (kcell (c, k)) 0 ∅ 0 ∗ reached ER (kcell (c, k)) 0)) ∗ toks c)
/-- What is made of it. -/
def G' (c : Dev nD) : sProp 𝕄 := iprop(∃ K, ghost m ρ K c)

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Fin 13 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks toks; rw [bigSep_map, bigSep_univ_prod]; rfl
  iintro HX
  imod (Rounds.fund ER (rd m ρ) exCells exToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## A device's row of cells -/

/-- One resource for each of the thirteen cells: the barrier's, those of the transfers out, those of the transfers in. -/
theorem thirteen (Φ : Fin 13 → sProp 𝕄) :
    bigSep Finset.univ Φ = iprop(Φ 0 ∗ (bigSep Finset.univ fun d : Dir => Φ (sSlot d)) ∗ bigSep Finset.univ fun d : Dir => Φ (rSlot d)) := by
  let eS : Dir ↪ Fin 13 := ⟨sSlot, by decide⟩
  let eR : Dir ↪ Fin 13 := ⟨rSlot, by decide⟩
  have h : (Finset.univ : Finset (Fin 13)).erase 0 = Finset.univ.map eS ∪ Finset.univ.map eR := by decide
  rw [bigSep_univ_at Φ 0, h]
  refine congrArg (fun X => iprop(Φ 0 ∗ X)) ?_
  rw [bigSep_union (by decide), bigSep_map, bigSep_map]; rfl

theorem ownSems0_eq (c : Dev nD) : (Pipeline.ownSems0 (Ix := Unit) (Name := ℕ) (U := UU) (Lvl := ℕ) (Val := Elt F) (τ := τ) osem c : sProp 𝕄)
    = iprop((bigSep Finset.univ fun d : Dir => semVal (sendCell d c) 0) ∗ bigSep Finset.univ fun d : Dir => semVal (recvCell d c) 0) := by
  let eS : Dir ↪ Fin 12 := ⟨fun d => ⟨d.val, by have := d.isLt; omega⟩, by decide⟩
  let eR : Dir ↪ Fin 12 := ⟨fun d => ⟨6 + d.val, by have := d.isLt; omega⟩, by decide⟩
  have h : (Finset.univ : Finset (Fin 12)) = Finset.univ.map eS ∪ Finset.univ.map eR := by decide
  unfold Pipeline.ownSems0
  rw [h, bigSep_union (by decide), bigSep_map, bigSep_map]
  have e1 : ∀ d : Dir, osem (eS d) = .dma (sendS d) := by decide
  have e2 : ∀ d : Dir, osem (eR d) = .dma (recvS d) := by decide
  simp only [e1, e2]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 13 => semVal (kcell (c, k)) 0 : sProp 𝕄) := by
  rw [ownSems0_eq, unscopedSems0_eq, thirteen]
  simp only [kcell, csem_send, csem_recv]
  iintro ⟨⟨HS, HV⟩, HB⟩
  isplitl [HB]; · iexact HB
  isplitl [HS] <;> iassumption

/-! ## Dealing -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 13 => semVal (kcell (c, k)) 0) ∗ bigSep Finset.univ fun k : Fin 13 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Per device and direction, handed to the device one step along the direction, under the direction back. -/
theorem handed (T : Dev nD → Dir → sProp 𝕄) :
    (bigSep Finset.univ fun c : Dev nD => bigSep Finset.univ fun d : Dir => T c d)
      = bigSep Finset.univ fun c : Dev nD => bigSep Finset.univ fun d : Dir => T (nb d c) (opp d) := by
  rw [bigSep_univ_comm T, bigSep_univ_comm (fun (c : Dev nD) (d : Dir) => T (nb d c) (opp d)),
    bigSep_univ_equiv turn (fun d : Dir => bigSep Finset.univ fun c : Dev nD => T c d)]
  exact bigSep_congr fun d _ => bigSep_univ_equiv (step d) (fun c : Dev nD => T c (opp d))

/-- The tokens device `c` pays with. -/
def payToks (c : Dev nD) : sProp 𝕄 := bigSep Finset.univ fun d : Dir => iprop(tokB d c ∗ tokS d c ∗ tokR d c)

theorem toks_handed : (bigSep Finset.univ fun c : Dev nD => (toks c : sProp 𝕄)) ⊢ bigSep Finset.univ fun c : Dev nD => payToks c := by
  have h3 (Φ : Fin 3 → sProp 𝕄) : bigSep Finset.univ Φ = iprop(Φ 0 ∗ Φ 1 ∗ Φ 2) := bigSep_univ_eq_bigSepL [0, 1, 2] (by decide) (by decide) Φ
  have h (c : Dev nD) : (toks c : sProp 𝕄) = iprop((bigSep Finset.univ fun d : Dir => dutyTok ER (barCell c) 0 d)
      ∗ (bigSep Finset.univ fun d : Dir => dutyTok ER (sendCell d c) 0 0) ∗ bigSep Finset.univ fun d : Dir => dutyTok ER (recvCell d c) 0 0) := by
    unfold toks; rw [bigSep_univ_prod, h3]; simp only [tokSlot, kcell, csem_send, csem_recv, csem_bar]
  simp only [h, payToks, bigSep_sep']
  rw [handed (fun c d => (dutyTok ER (barCell c) 0 d : sProp 𝕄)), handed (fun c d => (dutyTok ER (recvCell d c) 0 0 : sProp 𝕄))]

/-- What stays with device `c` alone: its positions and the tokens it pays with. -/
def linear (c : Dev nD) : sProp 𝕄 := iprop((bigSep Finset.univ fun k : Fin 13 => atPos ER (kcell (c, k)) 0 ∅ 0) ∗ payToks c)

theorem ghost_intro (K : Dev nD × Fin 13 → ℕ) (c : Dev nD) : iprop(records m ρ K ∗ linear c) ⊢ G' m ρ c := by
  unfold linear payToks G' ghost perD
  rw [thirteen]
  simp only [kcell, csem_send, csem_recv, csem_bar, bigSep_sep']
  iintro ⟨#HR, ⟨Hb, HS, HV⟩, HtB, HtS, HtR⟩
  iexists K
  isplitr; · iexact HR
  isplitl [Hb]; · iexact Hb
  isplitl [HS]; · iexact HS
  isplitl [HV]; · iexact HV
  isplitl [HtB]; · iexact HtB
  isplitl [HtS]; · iexact HtS
  iexact HtR

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 13 => iprop(∃ κ : ℕ, cellInv ER (rd m ρ) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (rd m ρ) κ (kcell ck) : sProp 𝕄))) $$ HI
  icases HK with ⟨%K, #HI⟩
  ihave Htk := (toks_handed (F := F)) $$ Htok
  iapply (with_persistent (R := records m ρ K) fun c _ => ghost_intro m ρ K c)
  isplitr
  · unfold records; isplitl; · iexact HI
    iexact HR
  · unfold linear
    rw [bigSep_sep']
    isplitl [Hat]; · iexact Hat
    iexact Htk

/-- All devices' semaphores and shares of the launch element at once become their starts. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

theorem oR_apply (c : Dev nD) (g : GSem nD τ sig) : oR c all g () = ∑ d : Dir, rt d c g () := by
  rw [Fin.sum_univ_six]
  simp only [all, oR, Pi.add_apply, Finsupp.add_apply, Pi.zero_apply, Finsupp.zero_apply]; omega
theorem O₀_apply (c : Dev nD) (g : GSem nD τ sig) : O₀ c g () = (∑ d : Dir, bt d c g ()) + ∑ d : Dir, rt d c g () := by
  rw [← oR_apply, Fin.sum_univ_six]
  unfold O₀
  simp only [all, oB, Pi.add_apply, Finsupp.add_apply]; omega

/-- A sum over the devices and the directions, each pair read one step along and turned back. -/
theorem sum_handed (T : Dev nD → Dir → ℕ) : (∑ c : Dev nD, ∑ d : Dir, T c d) = ∑ d : Dir, ∑ c : Dev nD, T (nb d c) (opp d) := by
  rw [Finset.sum_comm, ← Equiv.sum_comp turn]
  exact Finset.sum_congr rfl fun d _ => (Equiv.sum_comp (step d) fun c => T c (opp d)).symm

theorem cell_eq_iff {c c' : Dev nD} {s s' : SemLoc sig} :
    Iff ((((c : Thread nD τ), s) : GSem nD τ sig) = ((c' : Thread nD τ), s')) (c = c' ∧ s = s') :=
  ⟨fun h => ⟨congrArg (fun g : GSem nD τ sig => g.1.1) h, congrArg Prod.snd h⟩, fun h => by rw [h.1, h.2]⟩

theorem recvS_iff {d e : Dir} : Iff ((SemLoc.dma (recvS d) : SemLoc sig) = .dma (recvS e)) (d = e) :=
  ⟨fun h => by revert d e; decide, fun h => h ▸ rfl⟩

theorem owed_bar (c : Dev nD) : (∑ c' : Dev nD, O₀ c' (barCell c) ()) = cnt c all := by
  simp only [O₀_apply, Finset.sum_add_distrib]
  have h0 : (∑ c' : Dev nD, ∑ d : Dir, rt d c' (barCell c) ()) = 0 :=
    Finset.sum_eq_zero fun c' _ => Finset.sum_eq_zero fun d _ => by
      unfold rt; split
      · rw [tallyAt_apply, if_neg]; rintro ⟨h, -⟩; exact absurd (congrArg Prod.snd h) (by simp)
      · rfl
  rw [h0, Nat.add_zero, sum_handed (fun c' d => bt d c' (barCell c) ())]
  have h1 : ∀ (d : Dir) (c' : Dev nD), bt (opp d) (nb d c') (barCell c) () = if c' = c then (if has d c = true then 1 else 0) else 0 := fun d c' => by
    unfold bt
    rw [has_opp_nb, nb_opp_nb]
    by_cases hc : c' = c
    · subst hc; rw [if_pos rfl]; split
      · rw [tallyAt_apply, if_pos ⟨rfl, rfl⟩]
      · rfl
    · rw [if_neg hc]; split
      · rw [tallyAt_apply, if_neg fun h => hc (cell_eq_iff.mp h.1).1.symm]
      · rfl
  simp only [h1, Finset.sum_ite_eq', Finset.mem_univ, if_true]
  rw [← card_dirs, dirs, Finset.card_filter]

theorem owed_recv (d : Dir) (c : Dev nD) : (∑ c' : Dev nD, O₀ c' (recvCell d c) ()) = if has d c then amt d else 0 := by
  simp only [O₀_apply, Finset.sum_add_distrib]
  have h0 : (∑ c' : Dev nD, ∑ e : Dir, bt e c' (recvCell d c) ()) = 0 :=
    Finset.sum_eq_zero fun c' _ => Finset.sum_eq_zero fun e _ => by
      unfold bt; split
      · rw [tallyAt_apply, if_neg]; rintro ⟨h, -⟩; exact absurd (congrArg Prod.snd h) (by simp)
      · rfl
  rw [h0, Nat.zero_add, sum_handed (fun c' e => rt e c' (recvCell d c) ())]
  have h1 : ∀ (e : Dir) (c' : Dev nD), rt (opp e) (nb e c') (recvCell d c) () = if c' = c then (if e = d then (if has d c then amt d else 0) else 0) else 0 := fun e c' => by
    unfold rt
    rw [has_opp_nb, nb_opp_nb, opp_opp, amt_opp]
    by_cases hc : c' = c
    · subst hc; rw [if_pos rfl]
      by_cases he : e = d
      · subst he; rw [if_pos rfl]; split
        · rw [tallyAt_apply, if_pos ⟨rfl, rfl⟩]
        · rfl
      · rw [if_neg he]; split
        · rw [tallyAt_apply, if_neg fun h => he (recvS_iff.mp (cell_eq_iff.mp h.1).2).symm]
        · rfl
    · rw [if_neg hc]; split
      · rw [tallyAt_apply, if_neg fun h => hc (cell_eq_iff.mp h.1).1.symm]
      · rfl
  simp only [h1, Finset.sum_ite_eq', Finset.mem_univ, if_true]

theorem launch_bar (c : Dev nD) :
    tallyOn (barCell c) (launchCredit (Pipeline.owing O₀) 0 (barCell c)) = (tallyAt (barCell c) () (cnt c all) : CellTallies nD τ sig Unit) := by
  unfold tallyAt; refine congrArg _ (Finsupp.ext fun u => ?_); cases u
  rw [Pipeline.launchCredit_owing, Finsupp.single_eq_same, owed_bar]

theorem launch_recv (d : Dir) (c : Dev nD) :
    tallyOn (recvCell d c) (launchCredit (Pipeline.owing O₀) 0 (recvCell d c)) = (rc d c : CellTallies nD τ sig Unit) := by
  have h : rc d c = (tallyAt (recvCell d c) () (if has d c then amt d else 0) : CellTallies nD τ sig Unit) := by
    unfold rc; split
    · rfl
    · unfold tallyAt; rw [Finsupp.single_zero]; exact (tallyOn_zero _).symm
  rw [h]
  unfold tallyAt; refine congrArg _ (Finsupp.ext fun u => ?_); cases u
  rw [Pipeline.launchCredit_owing, Finsupp.single_eq_same, owed_recv]

theorem creds (c : Dev nD) :
    (Pipeline.launchCred O₀ c : sProp 𝕄) ⊢ iprop(cred (tallyAt (barCell c) () (cnt c all)) ∗ bigSep Finset.univ fun d : Dir => cred (rc d c)) := by
  let e : Dir ↪ SemLoc sig := ⟨fun d => .dma (recvS d), fun _ _ h => recvS_iff.mp h⟩
  have hs : (Finset.univ.map e : Finset (SemLoc sig)) ⊆ Finset.univ.erase (SemLoc.reg barS) := by decide
  have h : (bigSep (Finset.univ.map e) fun sm : SemLoc sig => (cred (tallyOn ((c.tc : Thread nD τ), sm) (launchCredit (Pipeline.owing O₀) 0 ((c.tc : Thread nD τ), sm))) : sProp 𝕄))
      = bigSep Finset.univ fun d : Dir => cred (rc d c) := by
    rw [bigSep_map]; exact bigSep_congr fun d _ => congrArg cred (launch_recv d c)
  unfold Pipeline.launchCred
  rw [bigSep_univ_at _ (SemLoc.reg barS), launch_bar, ← h]
  exact sep_mono_right (bigSep_subset hs)

end Cert.Halo

end
-- ==== Proof.Run.lean ====
/-
The run of the whole program on the mesh: it terminates, every device's result array ends at the computed contents, the
argument array is unchanged, and every semaphore counter reads zero.
-/
module

public import proofs.«01_k».proof.Proof.Deal
public import Idealize.ShloMosaic.Lib.Pipeline.CollectiveSegs

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- The kernel's scoped buffers are its scratch buffers. -/
theorem scratch_eq (c : Dev nD) : (Pipeline.scopedRest (Ix := Unit) (Name := ℕ) (U := UU) (Lvl := ℕ) (Val := Elt F) cfg0.spec c : sProp 𝕄) = scratch c := by
  unfold scratch; rw [six]; exact scopedRest0_eq c

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scratch c) from rfl, scratch_eq]
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = post c from rfl, scratch_eq, ownSems0_eq, unscopedSems0_eq]
  unfold post scratch
  rw [bigSep_sep']

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What device `c`'s array of window `w` holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters, every fair execution on the 32 devices terminates with
    every array at its computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array holds after the run what it held. -/
theorem finalA_arg (c : Dev nD) : finalA m ρ c (0 : Fin 2) = (s₀ m ρ).mem (win0_0.arr.view.loc (c : Thread nD τ)) :=
  (dats (F := F) m ρ 0 c).arrAt_in (0 : Fin 2) rfl _

/-- The staged block is the argument array. -/
theorem xstg_arg (c : Dev nD) : xstg m ρ c = m ((c : Thread nD τ).loc main_arg0) :=
  Memref.read_access_unit_zero (Elt F) main_arg0 (funext fun a => by fin_cases a <;> decide) (fun a => by fin_cases a <;> decide) _

/-- The result array holds after the run what the body left in the staging buffer. -/
theorem finalA_out (c : Dev nD) : finalA m ρ c (1 : Fin 2) = outZ m ρ c := by
  have hw : (win0_1.blk (0 : Fin 1)).view.read (Elt F) (finalA m ρ c (1 : Fin 2)) = finalA m ρ c (1 : Fin 2) :=
    Memref.read_access_unit_zero (Elt F) main_v1 (funext fun a => by fin_cases a <;> decide) (fun a => by fin_cases a <;> decide) _
  rw [← hw]
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

end Cert.Halo

end
-- ==== Proof.Same.lean ====
/-
The program as printed and its idealization are one text: their functions are equal over bit-exact floats, so a run of the
one is a run of the other.
-/
module

public import proofs.«01_k».proof.Defs
public import proofs.«01_k».proof.Proof.Gen.Kernel
public import proofs.«01_k».proof.Proof.Gen.KernelIdeal

@[expose] public section

noncomputable section

namespace Cert.Halo

open Idealize.ShloMosaic Idealize.SL.Sem

/-- The two kernel bodies are the same program. -/
theorem body_eq : Cert.Kernel.cc0_body (F := Bits) = Cert.KernelIdeal.cc0_body (F := Bits) := rfl

/-- So the two tables of kernels agree, label by label. -/
theorem kernels_eq : Cert.Kernel.defs₀ (F := Bits) = Cert.KernelIdeal.defs₀ (F := Bits) := by
  funext p ℓ a
  match p, ℓ, a with
  | .tc, ⟨0, _⟩, (_, _) =>
    show Cert.Kernel.cc0_body (F := Bits) _ _ _ _ _ _ _ _ _ _ _ _ _ _ _ _ _ _ _ _ _ _ =
      Cert.KernelIdeal.cc0_body (F := Bits) _ _ _ _ _ _ _ _ _ _ _ _ _ _ _ _ _ _ _ _ _ _
    rfl
  | .scScalar _, _, _ => rfl
  | .scVector _ _, _, _ => rfl

/-- And so do the tables the two programs run under. -/
theorem defs_eq : Cert.Kernel.defs (F := Bits) = Cert.KernelIdeal.defs (F := Bits) :=
  congrArg (Pipeline.defs Cert.KernelIdeal.pcfgs) kernels_eq

end Cert.Halo

end
-- ==== Proof.Cells.lean ====
/-
The whole array read at natural-number coordinates, zero outside it. Both the mesh's blocks and the reference's slices
are read in these terms, so that the comparison is arithmetic of coordinates.
-/
module

public import proofs.«01_k».proof.Proof.Parts
public import Idealize.ShloMosaic.Lib.Pointwise

@[expose] public section

noncomputable section

namespace Cert.Halo

open Cert.KernelIdeal Cert.KernelIdeal.Gen
open Idealize.ShloMosaic
open Idealize.ShloMosaic.TcCoe

/-- The whole array's shape. -/
abbrev Whole : Shape := ⟨3, ![64, 128, 128]⟩

/-- The whole array's entry at `(p, q, r)`, zero outside it. -/
def cell (x : Whole.Idx → EReal) (p q r : ℕ) : EReal :=
  if h : p < 64 ∧ q < 128 ∧ r < 128 then x (ix3 (⟨p, h.1⟩ : Fin 64) (⟨q, h.2.1⟩ : Fin 128) (⟨r, h.2.2⟩ : Fin 128)) else 0

/-- An entry is the cell at its index's coordinates. -/
theorem cell_of (x : Whole.Idx → EReal) (i : Whole.Idx) {p q r : ℕ} (hp : (i 0).val = p) (hq : (i 1).val = q) (hr : (i 2).val = r) :
    x i = cell x p q r := by
  subst hp hq hr
  have h : (i 0).val < 64 ∧ (i 1).val < 128 ∧ (i 2).val < 128 := ⟨(i 0).isLt, (i 1).isLt, (i 2).isLt⟩
  unfold cell
  rw [dif_pos h]
  refine congrArg x (funext fun a => Fin.ext ?_)
  fin_cases a <;> rfl

/-- The first coordinate of device `c`'s block's plane `a` in the whole array; likewise on the other two axes. -/
abbrev px (c : Dev nD) (a : ℕ) : ℕ := 32 * (c.val / 16) + a
abbrev py (c : Dev nD) (a : ℕ) : ℕ := 32 * (c.val / 4 % 4) + a
abbrev pz (c : Dev nD) (a : ℕ) : ℕ := 32 * (c.val % 4) + a

/-- The blocks `X` on the devices are the blocks of the whole array `x`. -/
def Cut (x : Whole.Idx → EReal) (X : Dev nD → S32x32x32.Idx → EReal) : Prop :=
  ∀ (c : Dev nD) (i : S32x32x32.Idx), X c i = cell x (px c (i 0).val) (py c (i 1).val) (pz c (i 2).val)

/-- A block's entry, by the whole array's coordinates. -/
theorem Cut.at {x : Whole.Idx → EReal} {X : Dev nD → S32x32x32.Idx → EReal} (h : Cut x X) (c : Dev nD) (i : S32x32x32.Idx) {p q r : ℕ}
    (hp : px c (i 0).val = p) (hq : py c (i 1).val = q) (hr : pz c (i 2).val = r) : X c i = cell x p q r := by
  rw [h c i, hp, hq, hr]

/-- The layout's blocks are those. -/
theorem cut_blockN (x : Whole.Idx → EReal) :
    Cut x fun c => Layout.blockN ⟨3, ![32, 32, 32]⟩ ⟨3, ![64, 128, 128]⟩ (Layout.meshBlock [2, 4, 4] ![[0], [1], [2]] c) x := by
  intro c i
  have hc : c.val < 32 := c.isLt
  show x _ = _
  apply cell_of
  · show (c.val / 16 % 2 * 1 + 0) * 32 + (i 0).val = _; unfold px; omega
  · show (c.val / 4 % 4 * 1 + 0) * 32 + (i 1).val = _; unfold py; omega
  · show (c.val / 1 % 4 * 1 + 0) * 32 + (i 2).val = _; unfold pz; omega

end Cert.Halo

end
-- ==== Proof.Own.lean ====
/-
The block's own part of the result: at each index the sum of the six neighbours that lie in the block, less six times
the entry.
-/
module

public import proofs.«01_k».proof.Proof.Cells

@[expose] public section

noncomputable section

namespace Cert.Halo

open Cert.KernelIdeal Cert.KernelIdeal.Gen
open Idealize.ShloMosaic
open Idealize.ShloMosaic.TcCoe

/-- The axis a direction runs along, and the block's last plane that way. -/
def onFace (d : Dir) (i : S32x32x32.Idx) : Prop :=
  match d with
  | 0 => (i 0).val = 0 | 1 => (i 0).val = 31 | 2 => (i 1).val = 0 | 3 => (i 1).val = 31 | 4 => (i 2).val = 0 | 5 => (i 2).val = 31

instance (d : Dir) (i : S32x32x32.Idx) : Decidable (onFace d i) := by
  unfold onFace; split <;> infer_instance

/-- The neighbour in direction `d` of the whole array's entry at `(p, q, r)`. -/
def around (x : Whole.Idx → EReal) (d : Dir) (p q r : ℕ) : EReal :=
  match d with
  | 0 => cell x (p - 1) q r | 1 => cell x (p + 1) q r
  | 2 => cell x p (q - 1) r | 3 => cell x p (q + 1) r
  | 4 => cell x p q (r - 1) | 5 => cell x p q (r + 1)

/-- The same for entry `i` of device `c`'s block. -/
def nbr (x : Whole.Idx → EReal) (d : Dir) (c : Dev nD) (i : S32x32x32.Idx) : EReal :=
  around x d (px c (i 0).val) (py c (i 1).val) (pz c (i 2).val)

/-- The factor the kernel and the reference both print as `6.0`. -/
def six6 : EReal := Ideal.ofBits .f32 0x40C00000#32

/-- The part of the neighbour sum that one direction brings before any halo: nothing on the face towards it. -/
def inner (x : Whole.Idx → EReal) (d : Dir) (c : Dev nD) (i : S32x32x32.Idx) : EReal := if onFace d i then 0 else nbr x d c i

/-- The kernel's first store: the neighbours inside the block, less six times the entry. -/
theorem pay6_apply {x : Whole.Idx → EReal} {X : Dev nD → S32x32x32.Idx → EReal} (h : Cut x X) (c : Dev nD) (i : S32x32x32.Idx) :
    k0_pay6 (F := Ideal) (X c) i
      = inner x 0 c i + inner x 1 c i + inner x 2 c i + inner x 3 c i + inner x 4 c i + inner x 5 c i - six6 * X c i := by
  have h0 : (i 0).val < 32 := (i 0).isLt
  have h1 : (i 1).val < 32 := (i 1).isLt
  have h2 : (i 2).val < 32 := (i 2).isLt
  have lo : ∀ (P Q : Prop) [Decidable P] [Decidable Q] (a : ¬P → EReal) (b : EReal), (P ↔ Q) → (∀ n, a n = b) → (if n : P then 0 else a n) = if Q then 0 else b := by
    intro P Q _ _ a b e k
    by_cases n : P
    · rw [dif_pos n, if_pos (e.1 n)]
    · rw [dif_neg n, if_neg (fun q => n (e.2 q)), k n]
  have hi : ∀ (P Q : Prop) [Decidable P] [Decidable Q] (a : P → EReal) (b : EReal), (P ↔ ¬Q) → (∀ n, a n = b) → (if n : P then a n else 0) = if Q then 0 else b := by
    intro P Q _ _ a b e k
    by_cases n : P
    · rw [dif_pos n, if_neg (e.1 n), k n]
    · rw [dif_neg n, if_pos (not_not.1 fun q => n (e.2 q))]
  pointwise [k0_pay6, k0_pay3, k0_pay4, k0_pay5]
  unfold inner
  refine congrArg₂ (· - ·) (congrArg₂ (· + ·) (congrArg₂ (· + ·) (congrArg₂ (· + ·) (congrArg₂ (· + ·) (congrArg₂ (· + ·) ?_ ?_) ?_) ?_) ?_) ?_) rfl
  · refine lo _ _ _ _ ?_ fun n => h.at c _ ?_ ?_ ?_ <;> dsimp [onFace, px, py, pz, ix3] <;> omega
  · refine hi _ _ _ _ ?_ fun n => h.at c _ ?_ ?_ ?_ <;> dsimp [onFace, px, py, pz, ix3] <;> omega
  · refine lo _ _ _ _ ?_ fun n => h.at c _ ?_ ?_ ?_ <;> dsimp [onFace, px, py, pz, ix3] <;> omega
  · refine hi _ _ _ _ ?_ fun n => h.at c _ ?_ ?_ ?_ <;> dsimp [onFace, px, py, pz, ix3] <;> omega
  · refine lo _ _ _ _ ?_ fun n => h.at c _ ?_ ?_ ?_ <;> dsimp [onFace, px, py, pz, ix3] <;> omega
  · refine hi _ _ _ _ ?_ fun n => h.at c _ ?_ ?_ ?_ <;> dsimp [onFace, px, py, pz, ix3] <;> omega

end Cert.Halo

end
-- ==== Proof.Faces.lean ====
/-
The faces of the result: what adding a halo and what zeroing do to each entry.
-/
module

public import proofs.«01_k».proof.Proof.Own

@[expose] public section

noncomputable section

namespace Cert.Halo

open Cert.KernelIdeal Cert.KernelIdeal.Gen
open Idealize.ShloMosaic
open Idealize.ShloMosaic.TcCoe

variable (m : (ℓ : Loc nD τ sig) → Buf (Elt Ideal) ℓ) (ρ : Dev nD → PrngReg)

/-- A face written, read at an index: the written values on the face, the old contents off it. -/
theorem putFace_eq (r : Rect S32x32x32) (f g : S32x32x32.Idx → EReal) (w : r.shape.Idx → EReal)
    (hw : ∀ j, w j = g (r.idx j)) (hf : ∀ i, i ∉ r.set → f i = g i) : putFace (F := Ideal) r f w = g := by
  funext i
  by_cases h : i ∈ r.set
  · obtain ⟨j, rfl⟩ := r.exists_idx_of_mem h
    exact (View.write_emb_of_mem (v := (oM.access r : View sig .tc _ _ _)) (Val := Elt Ideal) f w (Finset.mem_univ j)).trans (hw j)
  · refine (View.write_of_not_mem (v := (oM.access r : View sig .tc _ _ _)) (Val := Elt Ideal) f w Finset.univ ?_).trans (hf i h)
    intro hi
    obtain ⟨j, -, rfl⟩ := Finset.mem_map.1 hi
    exact h (r.idx_mem j)

/-- A face with something added to it. -/
theorem putFace_add (r : Rect S32x32x32) (f N : S32x32x32.Idx → EReal) (w : r.shape.Idx → EReal) (P : S32x32x32.Idx → Prop) [DecidablePred P]
    (hP : ∀ i, i ∈ r.set ↔ P i) (hw : ∀ j, w j = f (r.idx j) + N (r.idx j)) :
    putFace (F := Ideal) r f w = fun i => f i + if P i then N i else 0 := by
  refine putFace_eq r f _ w (fun j => ?_) fun i hi => ?_
  · rw [hw j, if_pos ((hP _).1 (r.idx_mem j))]
  · rw [if_neg fun p => hi ((hP i).2 p), add_zero]

/-- A face zeroed. -/
theorem putFace_zero (r : Rect S32x32x32) (f : S32x32x32.Idx → EReal) (w : r.shape.Idx → EReal) (P : S32x32x32.Idx → Prop) [DecidablePred P]
    (hP : ∀ i, i ∈ r.set ↔ P i) (hw : ∀ j, w j = 0) :
    putFace (F := Ideal) r f w = fun i => if P i then 0 else f i := by
  refine putFace_eq r f _ w (fun j => ?_) fun i hi => ?_
  · rw [hw j, if_pos ((hP _).1 (r.idx_mem j))]
  · rw [if_neg fun p => hi ((hP i).2 p)]

/-- The face towards `d` as a rectangle of the block. -/
abbrev faceR (d : Dir) : Rect S32x32x32 :=
  match d with
  | 0 => rx0 | 1 => rx1 | 2 => ry0 | 3 => ry1 | 4 => rz0 | 5 => rz1

theorem mem_faceR (d : Dir) (i : S32x32x32.Idx) : i ∈ (faceR d).set ↔ onFace d i := by
  have h0 : (i 0).val < 32 := (i 0).isLt
  have h1 : (i 1).val < 32 := (i 1).isLt
  have h2 : (i 2).val < 32 := (i 2).isLt
  fin_cases d <;> refine Rect.mem_set_unit.trans (Fin.forall_fin_succ.trans ?_) <;>
    simp [Fin.forall_fin_succ, onFace] <;> omega

/-- A neighbour's entry, one step along: what arrived from direction `d` on the face it is added to. -/
theorem landed_at {x : Whole.Idx → EReal} {X : Dev nD → S32x32x32.Idx → EReal} (h : Cut x X) (d : Dir) (c : Dev nD) (hd : has d c = true)
    (i j : S32x32x32.Idx) (hi : onFace d i) (hj : onFace (opp d) j)
    (h0 : d = 0 ∨ d = 1 ∨ (j 0).val = (i 0).val) (h1 : d = 2 ∨ d = 3 ∨ (j 1).val = (i 1).val) (h2 : d = 4 ∨ d = 5 ∨ (j 2).val = (i 2).val) :
    X (nb d c) j = nbr x d c i := by
  have hc : c.val < 32 := c.isLt
  fin_cases d <;> simp [has] at hd <;> simp [onFace, opp] at hi hj <;> simp at h0 h1 h2 <;>
    refine h.at _ _ ?_ ?_ ?_ <;> simp only [px, py, pz, nb, nbVal] <;> omega

/-- A shape cast that keeps the shape keeps the values. -/
theorem cast_same {s : Shape} (v : s.Idx → EReal) (h : s.ShapeCasts s) : shapeCast s v h = v :=
  funext fun i => congrArg v (Shape.reshapeEquiv_self h i)

/-- The staged faces are copies, and each later store adds the halo to the face. -/
theorem pay1_apply (a : S32x32x1.Idx → EReal) (j : S32x32x1.Idx) : k0_pay1 (F := Ideal) a j = a j := by
  unfold k0_pay1; rw [cast_same, cast_same]
theorem pay2_apply (a : S32x32x1.Idx → EReal) (j : S32x32x1.Idx) : k0_pay2 (F := Ideal) a j = a j := by
  unfold k0_pay2; rw [cast_same, cast_same]
theorem pay7_apply (a b : S1x32x32.Idx → EReal) (j : S1x32x32.Idx) : k0_pay7 (F := Ideal) a b j = a j + b j := by
  unfold k0_pay7; rw [cast_same]; rfl
theorem pay8_apply (a b : S1x32x32.Idx → EReal) (j : S1x32x32.Idx) : k0_pay8 (F := Ideal) a b j = a j + b j := pay7_apply a b j
theorem pay9_apply (a b : S32x1x32.Idx → EReal) (j : S32x1x32.Idx) : k0_pay9 (F := Ideal) a b j = a j + b j := by
  unfold k0_pay9; rw [cast_same]; rfl
theorem pay10_apply (a b : S32x1x32.Idx → EReal) (j : S32x1x32.Idx) : k0_pay10 (F := Ideal) a b j = a j + b j := pay9_apply a b j
theorem pay11_apply (a b : S32x32x1.Idx → EReal) (j : S32x32x1.Idx) : k0_pay11 (F := Ideal) a b j = a j + b j := by
  unfold k0_pay11; rw [cast_same]; rfl
theorem pay12_apply (a b : S32x32x1.Idx → EReal) (j : S32x32x1.Idx) : k0_pay12 (F := Ideal) a b j = a j + b j := pay11_apply a b j

/-- The two halos across the third axis are the neighbours' faces, too. -/
theorem staged_4 (c : Dev nD) (j : S32x32x1.Idx) : landed m ρ 4 c j = xstg m ρ (nb 4 c) (rz1.idx j) := by
  show k0_pay2 (uM.view.readAt (Elt Ideal) rz1.toLoadRect (xstg m ρ (nb 4 c))) j = _
  exact pay2_apply _ j
theorem staged_5 (c : Dev nD) (j : S32x32x1.Idx) : landed m ρ 5 c j = xstg m ρ (nb 5 c) (rz0.idx j) := by
  show k0_pay1 (uM.view.readAt (Elt Ideal) rz0.toLoadRect (xstg m ρ (nb 5 c))) j = _
  exact pay1_apply _ j

/-- A halo added to the face it adjoins, where there is one. -/
theorem addF_eq {x : Whole.Idx → EReal} (h : Cut x (xstg m ρ)) (d : Dir) (c : Dev nD) (f : S32x32x32.Idx → EReal) :
    addF m ρ d c f = fun i => f i + if has d c = true ∧ onFace d i then nbr x d c i else 0 := by
  have key : ∀ w : (faceR d).shape.Idx → EReal, (has d c = true → ∀ j, w j = f ((faceR d).idx j) + nbr x d c ((faceR d).idx j)) →
      (if has d c then putFace (F := Ideal) (faceR d) f w else f) = fun i => f i + if has d c = true ∧ onFace d i then nbr x d c i else 0 := by
    intro w hw
    by_cases hd : has d c = true
    · rw [if_pos hd, putFace_add (faceR d) f (nbr x d c) w (onFace d) (mem_faceR d) (hw hd)]
      simp only [hd, true_and]
    · rw [if_neg hd]
      funext i
      rw [if_neg fun p => hd p.1, add_zero]
  have arrived : has d c = true → ∀ (j : (faceR d).shape.Idx) (k : (faceR (opp d)).shape.Idx)
      (h0 : d = 0 ∨ d = 1 ∨ ((faceR (opp d)).idx k 0).val = ((faceR d).idx j 0).val)
      (h1 : d = 2 ∨ d = 3 ∨ ((faceR (opp d)).idx k 1).val = ((faceR d).idx j 1).val)
      (h2 : d = 4 ∨ d = 5 ∨ ((faceR (opp d)).idx k 2).val = ((faceR d).idx j 2).val),
      xstg m ρ (nb d c) ((faceR (opp d)).idx k) = nbr x d c ((faceR d).idx j) := fun hd j k h0 h1 h2 =>
    landed_at h d c hd _ _ ((mem_faceR d _).1 ((faceR d).idx_mem j)) ((mem_faceR (opp d) _).1 ((faceR (opp d)).idx_mem k)) h0 h1 h2
  have hx : ∀ (b : Ref sig .tc) (g : b.ty.Contents (Elt Ideal)) {off : Fin b.ty.shape.rank → ℕ} (e : off = fun _ => 0)
      (inb : ∀ a, off a + b.ty.shape.size a ≤ b.ty.shape.size a) (j : b.ty.Idx),
      (Memref.whole b : Memref sig .tc _ _ _).view.readAt (Elt Ideal) (Rect.unit off b.ty.shape.size inb).toLoadRect g j = g j :=
    fun b g _ e inb j => congrFun (Memref.readAt_unit_zero (Elt Ideal) b e inb g) j
  fin_cases d
  · refine key _ fun hd j => (pay7_apply _ _ j).trans (congrArg₂ (· + ·) rfl ((hx cc0_scratch2 _ hz3 _ j).trans ?_))
    exact arrived hd j j (Or.inl rfl) (Or.inr (Or.inr rfl)) (Or.inr (Or.inr rfl))
  · refine key _ fun hd j => (pay8_apply _ _ j).trans (congrArg₂ (· + ·) rfl ((hx cc0_scratch3 _ hz3 _ j).trans ?_))
    exact arrived hd j j (Or.inr (Or.inl rfl)) (Or.inr (Or.inr rfl)) (Or.inr (Or.inr rfl))
  · refine key _ fun hd j => (pay9_apply _ _ j).trans (congrArg₂ (· + ·) rfl ((hx cc0_scratch4 _ hz3 _ j).trans ?_))
    exact arrived hd j j (Or.inr (Or.inr rfl)) (Or.inl rfl) (Or.inr (Or.inr rfl))
  · refine key _ fun hd j => (pay10_apply _ _ j).trans (congrArg₂ (· + ·) rfl ((hx cc0_scratch5 _ hz3 _ j).trans ?_))
    exact arrived hd j j (Or.inr (Or.inr rfl)) (Or.inr (Or.inl rfl)) (Or.inr (Or.inr rfl))
  · refine key _ fun hd j => (pay11_apply _ _ j).trans (congrArg₂ (· + ·) rfl ((hx cc0_scratch6 _ hz3 _ j).trans ((staged_4 m ρ c j).trans ?_)))
    exact arrived hd j j (Or.inr (Or.inr rfl)) (Or.inr (Or.inr rfl)) (Or.inl rfl)
  · refine key _ fun hd j => (pay12_apply _ _ j).trans (congrArg₂ (· + ·) rfl ((hx cc0_scratch7 _ hz3 _ j).trans ((staged_5 m ρ c j).trans ?_)))
    exact arrived hd j j (Or.inr (Or.inr rfl)) (Or.inr (Or.inr rfl)) (Or.inr (Or.inl rfl))

/-- The face towards `d` zeroed where the mesh ends. -/
theorem zeroF_eq (d : Dir) (c : Dev nD) (f : S32x32x32.Idx → EReal) :
    zeroF (F := Ideal) d c f = fun i => if ¬ has d c = true ∧ onFace d i then 0 else f i := by
  have key : ∀ w : (faceR d).shape.Idx → EReal, (∀ j, w j = 0) →
      (if has d c then f else putFace (F := Ideal) (faceR d) f w) = fun i => if ¬ has d c = true ∧ onFace d i then 0 else f i := by
    intro w hw
    by_cases hd : has d c = true
    · rw [if_pos hd]
      funext i
      rw [if_neg fun p => p.1 hd]
    · rw [if_neg hd, putFace_zero (faceR d) f w (onFace d) (mem_faceR d) hw]
      exact funext fun i => if_congr ⟨fun p => ⟨hd, p⟩, fun p => p.2⟩ rfl rfl
  fin_cases d <;> exact key _ fun _ => Ideal.ofBits_zero_f32

end Cert.Halo

end
-- ==== Proof.RefValue.lean ====
/-
What the reference computes, entry by entry: inside the border the six neighbours' sum less six times the entry, and
zero on the border.
-/
module

public import proofs.«01_k».proof.Proof.Own
public import proofs.«01_k».proof.Proof.Gen.ReferenceIdeal.Run

@[expose] public section

noncomputable section

namespace Cert.Halo

open Cert.ReferenceIdeal Cert.ReferenceIdeal.Gen
open Idealize.ShloMosaic

/-- The interior of the reference's result, from its argument. -/
def stencil (x : Whole.Idx → EReal) : FVec Ideal S62x126x126 .f32 :=
  subf (addf (addf (addf (addf (addf (extractStridedSlice S62x126x126 ![0, 1, 1] x slices_S64x128x128_S62x126x126_0_1_1)
    (extractStridedSlice S62x126x126 ![2, 1, 1] x slices_S64x128x128_S62x126x126_2_1_1))
    (extractStridedSlice S62x126x126 ![1, 0, 1] x slices_S64x128x128_S62x126x126_1_0_1))
    (extractStridedSlice S62x126x126 ![1, 2, 1] x slices_S64x128x128_S62x126x126_1_2_1))
    (extractStridedSlice S62x126x126 ![1, 1, 0] x slices_S64x128x128_S62x126x126_1_1_0))
    (extractStridedSlice S62x126x126 ![1, 1, 2] x slices_S64x128x128_S62x126x126_1_1_2))
    (mulf (broadcastInDim S62x126x126 ![] bcast_S_S62x126x126 (constant (F := Ideal) S_ .f32 0x40C00000#32))
      (extractStridedSlice S62x126x126 ![1, 1, 1] x slices_S64x128x128_S62x126x126_1_1_1))

/-- The reference's result: the interior within a border of zeros. -/
def refOut (x : Whole.Idx → EReal) : FVec Ideal S64x128x128 .f32 :=
  pad S64x128x128 ![1, 1, 1] ![1, 1, 1] ![0, 0, 0] (stencil x) (sitofp (F := Ideal) .f32 (constantI S_ 32 0#32)) pads_S62x126x126_S64x128x128_110_110_110 h_S_

/-- The interior's entry `j` is the stencil around the array's entry one step in on every axis. -/
theorem stencil_apply (x : Whole.Idx → EReal) (j : S62x126x126.Idx) :
    stencil x j = around x 0 ((j 0).val + 1) ((j 1).val + 1) ((j 2).val + 1) + around x 1 ((j 0).val + 1) ((j 1).val + 1) ((j 2).val + 1)
      + around x 2 ((j 0).val + 1) ((j 1).val + 1) ((j 2).val + 1) + around x 3 ((j 0).val + 1) ((j 1).val + 1) ((j 2).val + 1)
      + around x 4 ((j 0).val + 1) ((j 1).val + 1) ((j 2).val + 1) + around x 5 ((j 0).val + 1) ((j 1).val + 1) ((j 2).val + 1)
      - six6 * cell x ((j 0).val + 1) ((j 1).val + 1) ((j 2).val + 1) := by
  pointwise [stencil]
  refine congrArg₂ (· - ·) (congrArg₂ (· + ·) (congrArg₂ (· + ·) (congrArg₂ (· + ·) (congrArg₂ (· + ·) (congrArg₂ (· + ·) ?_ ?_) ?_) ?_) ?_) ?_) (congrArg₂ (· * ·) rfl ?_) <;>
    (refine cell_of x _ ?_ ?_ ?_ <;> dsimp [ix3] <;> omega)

/-- Whether `(p, q, r)` lies inside the border. -/
abbrev Inside (p q r : ℕ) : Prop := (1 ≤ p ∧ p ≤ 62) ∧ (1 ≤ q ∧ q ≤ 126) ∧ (1 ≤ r ∧ r ≤ 126)

/-- The reference's result at a place of the array. -/
theorem refOut_apply (x : Whole.Idx → EReal) {p q r : ℕ} (hp : p < 64) (hq : q < 128) (hr : r < 128) :
    cell (refOut x) p q r = if Inside p q r then around x 0 p q r + around x 1 p q r + around x 2 p q r + around x 3 p q r
      + around x 4 p q r + around x 5 p q r - six6 * cell x p q r else 0 := by
  refine (cell_of (refOut x) (ix3 (⟨p, hp⟩ : Fin 64) (⟨q, hq⟩ : Fin 128) (⟨r, hr⟩ : Fin 128)) rfl rfl rfl).symm.trans ?_
  by_cases h : Inside p q r
  · rw [if_pos h]
    have e := stencil_apply x (ix3 (⟨p - 1, by omega⟩ : Fin 62) (⟨q - 1, by omega⟩ : Fin 126) (⟨r - 1, by omega⟩ : Fin 126))
    dsimp only [ix3] at e
    rw [show p - 1 + 1 = p by omega, show q - 1 + 1 = q by omega, show r - 1 + 1 = r by omega] at e
    refine Eq.trans ?_ e
    unfold refOut
    pointwise
    rw [dif_pos (by omega)]
  · rw [if_neg h]
    unfold refOut
    pointwise
    rw [dif_neg (by omega)]
    show (((0#32 : BitVec 32).toInt : ℝ) : EReal) = 0
    simp

end Cert.Halo

end
-- ==== Proof.Equation.lean ====
/-
The equation: what the kernel leaves on a device is that device's block of the reference's result.
-/
module

public import proofs.«01_k».proof.Proof.Faces
public import proofs.«01_k».proof.Proof.RefValue

@[expose] public section

noncomputable section

namespace Cert.Halo

open Cert.KernelIdeal Cert.KernelIdeal.Gen
open Idealize.ShloMosaic
open Idealize.ShloMosaic.TcCoe

variable (m : (ℓ : Loc nD τ sig) → Buf (Elt Ideal) ℓ) (ρ : Dev nD → PrngReg)

/-- What the halo from direction `d` brings an entry. -/
def outer (x : Whole.Idx → EReal) (d : Dir) (c : Dev nD) (i : S32x32x32.Idx) : EReal :=
  if has d c = true ∧ onFace d i then nbr x d c i else 0

/-- The result with all halos added, at an entry. -/
theorem outA_apply {x : Whole.Idx → EReal} (h : Cut x (xstg m ρ)) (c : Dev nD) (i : S32x32x32.Idx) :
    outA m ρ c i = inner x 0 c i + inner x 1 c i + inner x 2 c i + inner x 3 c i + inner x 4 c i + inner x 5 c i - six6 * xstg m ρ c i
      + outer x 0 c i + outer x 1 c i + outer x 2 c i + outer x 3 c i + outer x 4 c i + outer x 5 c i := by
  unfold outA outer
  rw [addF_eq m ρ h, addF_eq m ρ h, addF_eq m ρ h, addF_eq m ρ h, addF_eq m ρ h, addF_eq m ρ h]
  rw [show out0 m ρ c = k0_pay6 (F := Ideal) (xstg m ρ c) from rfl]
  beta_reduce
  rw [pay6_apply h c i]

/-- Some direction, listed. -/
theorem some_dir (P : Dir → Prop) : (∃ d, P d) ↔ P 0 ∨ P 1 ∨ P 2 ∨ P 3 ∨ P 4 ∨ P 5 := by
  constructor
  · rintro ⟨d, hd⟩
    fin_cases d <;> simp only [Fin.mk_zero, Fin.mk_one, Fin.reduceFinMk, Fin.zero_eta, Fin.isValue] at hd <;> simp only [hd, true_or, or_true]
  · rintro (h | h | h | h | h | h) <;> exact ⟨_, h⟩

/-- Zeroing in six steps is zeroing where some step does. -/
theorem zero_six (P : Dir → Prop) [DecidablePred P] (v : EReal) :
    (if P 5 then 0 else if P 4 then 0 else if P 3 then 0 else if P 2 then 0 else if P 1 then 0 else if P 0 then 0 else v)
      = if P 0 ∨ P 1 ∨ P 2 ∨ P 3 ∨ P 4 ∨ P 5 then 0 else v := by
  by_cases h0 : P 0 <;> by_cases h1 : P 1 <;> by_cases h2 : P 2 <;> by_cases h3 : P 3 <;> by_cases h4 : P 4 <;> by_cases h5 : P 5 <;>
    simp only [h0, h1, h2, h3, h4, h5, if_true, if_false, or_true, true_or, or_false, false_or]

/-- The faces at the mesh's ends zeroed, at an entry. -/
theorem outZ_apply (c : Dev nD) (i : S32x32x32.Idx) :
    outZ m ρ c i = if ∃ d, ¬ has d c = true ∧ onFace d i then (0 : EReal) else outA m ρ c i := by
  unfold outZ
  rw [zeroF_eq, zeroF_eq, zeroF_eq, zeroF_eq, zeroF_eq, zeroF_eq]
  exact (zero_six (fun d => ¬ has d c = true ∧ onFace d i) (outA m ρ c i)).trans (if_congr (some_dir fun d => ¬ has d c = true ∧ onFace d i).symm rfl rfl)

/-- Away from the mesh's ends, the part from inside the block and the part from the halo make up the neighbour. -/
theorem inner_add_outer (x : Whole.Idx → EReal) (d : Dir) (c : Dev nD) (i : S32x32x32.Idx) (hd : ¬ (¬ has d c = true ∧ onFace d i)) :
    inner x d c i + outer x d c i = nbr x d c i := by
  unfold inner outer
  by_cases hf : onFace d i
  · rw [if_pos hf, if_pos ⟨not_not.1 fun n => hd ⟨n, hf⟩, hf⟩, zero_add]
  · rw [if_neg hf, if_neg fun p => hf p.2, add_zero]

/-- Twelve summands gathered in pairs, with one more carried along. -/
theorem gather (a₀ a₁ a₂ a₃ a₄ a₅ z b₀ b₁ b₂ b₃ b₄ b₅ : EReal) :
    a₀ + a₁ + a₂ + a₃ + a₄ + a₅ - z + b₀ + b₁ + b₂ + b₃ + b₄ + b₅ = (a₀ + b₀) + (a₁ + b₁) + (a₂ + b₂) + (a₃ + b₃) + (a₄ + b₄) + (a₅ + b₅) - z := by
  rw [sub_eq_add_neg, sub_eq_add_neg]
  generalize -z = y
  abel

/-- An entry lies on the array's border where some direction leads off the mesh. -/
theorem inside_iff (c : Dev nD) (i : S32x32x32.Idx) :
    Inside (px c (i 0).val) (py c (i 1).val) (pz c (i 2).val) ↔ ¬ ∃ d, ¬ has d c = true ∧ onFace d i := by
  have hc : c.val < 32 := c.isLt
  have h0 : (i 0).val < 32 := (i 0).isLt
  have h1 : (i 1).val < 32 := (i 1).isLt
  have h2 : (i 2).val < 32 := (i 2).isLt
  rw [some_dir]
  simp only [has, onFace, px, py, pz, Inside, decide_eq_true_eq]
  omega

/-- What the kernel leaves on device `c` is block `c` of the reference's result. -/
theorem outZ_cut {x : Whole.Idx → EReal} (h : Cut x (xstg m ρ)) : Cut (refOut x) (outZ m ρ) := by
  intro c i
  have hc : c.val < 32 := c.isLt
  have h0 : (i 0).val < 32 := (i 0).isLt
  have h1 : (i 1).val < 32 := (i 1).isLt
  have h2 : (i 2).val < 32 := (i 2).isLt
  rw [refOut_apply x (by unfold px; omega) (by unfold py; omega) (by unfold pz; omega), outZ_apply]
  by_cases hd : ∃ d, ¬ has d c = true ∧ onFace d i
  · rw [if_pos hd, if_neg fun n => (inside_iff c i).1 n hd]
  · have hn := fun d => not_exists.1 hd d
    rw [if_neg hd, if_pos ((inside_iff c i).2 hd), outA_apply m ρ h, gather, inner_add_outer x 0 c i (hn 0), inner_add_outer x 1 c i (hn 1),
      inner_add_outer x 2 c i (hn 2), inner_add_outer x 3 c i (hn 3), inner_add_outer x 4 c i (hn 4), inner_add_outer x 5 c i (hn 5), h c i]
    rfl

end Cert.Halo

end
-- ==== Proof.lean ====
/-
The proof of `Cert.Claim`: the three programs run and leave their arguments and counters as claimed, and the kernel in
exact arithmetic computes the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Equation
public import Idealize.ShloMosaic.Adequacy
public import Idealize.ShloMosaic.Init

@[expose] public section

noncomputable section

namespace Cert.Proof

open Idealize.ShloMosaic Idealize.SL.Sem

/-- The kernel as written runs, keeps its argument and ends with every counter at zero. -/
theorem frame_kernel : Cert.quiescent_Kernel := by
  intro m ρ _
  rw [Cert.Halo.defs_eq]
  exact (θ_run Cert.KernelIdeal.defs _ _).mono (fun _ h => ⟨fun c => (h.1 c (0 : Fin 2)).trans (Cert.Halo.finalA_arg m ρ c), h.2⟩)
    (Cert.Halo.run_main (F := Bits) m ρ)

/-- So does the kernel in exact arithmetic. -/
theorem frame_ideal : Cert.quiescent_KernelIdeal := fun m ρ _ =>
  (θ_run Cert.KernelIdeal.defs _ _).mono (fun _ h => ⟨fun c => (h.1 c (0 : Fin 2)).trans (Cert.Halo.finalA_arg m ρ c), h.2⟩)
    (Cert.Halo.run_main (F := Ideal) m ρ)

/-- So does the reference, which has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- No operation was rewritten. -/
theorem preserves : Cert.preserves_Kernel_KernelIdeal := trivial

/-- In exact arithmetic each device's result is its block of the reference's. -/
theorem algebraic : Cert.algebraic_KernelIdeal_ReferenceIdeal := by
  intro m g m' g' _ hagree
  refine ⟨Cert.Halo.refOut (m' (((0 : Dev Cert.ReferenceIdeal.nD).tc : Thread _ Cert.ReferenceIdeal.τ).loc Cert.ReferenceIdeal.main_arg0)), ?_, ?_⟩
  · refine (θ_run Cert.KernelIdeal.defs _ _).mono
      (fun _ h c => ⟨(h.1 c (1 : Fin 2)).trans ?_, (h.1 c (0 : Fin 2)).trans (Cert.Halo.finalA_arg m g c)⟩) (Cert.Halo.run_main (F := Ideal) m g)
    have hx : Cert.Halo.Cut (m' (((0 : Dev Cert.ReferenceIdeal.nD).tc : Thread _ Cert.ReferenceIdeal.τ).loc Cert.ReferenceIdeal.main_arg0)) (Cert.Halo.xstg m g) :=
      fun c i => ((congrFun (Cert.Halo.xstg_arg m g c) i).trans (congrFun (hagree c) i)).trans (Cert.Halo.cut_blockN _ c i)
    exact (Cert.Halo.finalA_out m g c).trans (funext fun i => (Cert.Halo.outZ_cut m g hx c i).trans (Cert.Halo.cut_blockN _ c i).symm)
  · exact (θ_run Cert.ReferenceIdeal.defs _ _).mono (fun _ h => h 0) (Cert.ReferenceIdeal.Value.run (F := Ideal) m' g')

/-- The certificate's claims together, after the programs' stated facts. -/
theorem claim : Cert.Claim :=
  ⟨Cert.Kernel.Gen.facts, Cert.KernelIdeal.Gen.facts, Cert.ReferenceIdeal.Gen.facts, frame_kernel, frame_ideal, frame_reference, preserves, algebraic⟩

end Cert.Proof

end
